-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![1024, 256]⟩ (Layout.meshBlock [2, 4, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S1024x256 : Shape := ⟨2, ![1024, 256]⟩
abbrev S3 : Shape := ⟨1, ![3]⟩
abbrev S_ : Shape := ⟨0, ![]⟩
abbrev S1 : Shape := ⟨1, ![1]⟩

abbrev nBuf : Space → Nat
  | .hbm => 2
  | .vmem => 2
  | .smem => 0
  | _ => 0

abbrev bufTy : (tb : Table) → Fin (tcTables nBuf tb) → BufTy
  | .hbm, ⟨0, _⟩ => ⟨S256x256, .bf16⟩
  | .hbm, ⟨1, _⟩ => ⟨S1024x256, .bf16⟩
  | .local _ .vmem, ⟨0, _⟩ => ⟨S256x256, .bf16⟩
  | .local _ .vmem, ⟨1, _⟩ => ⟨S1024x256, .bf16⟩
  | _, _ => ⟨S256x256, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_9 : BitVec 32 := 16#32
  let v21 : BitVec 32 := Scalar.muli v2 c16_i32_9
  let v22 : BitVec 32 := Scalar.addi c0_i32_10 v21
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_11 : BitVec 32 := 4#32
  let v23 : BitVec 32 := Scalar.muli v5 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v10 : BitVec 32 := Scalar.addi v8 c1_i32_2
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c1_i32_12 : BitVec 32 := 1#32
  let v25 : BitVec 32 := Scalar.muli v20 c1_i32_12
  let v26 : BitVec 32 := Scalar.addi v24 v25
  v26.toNat
def k0_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v38 : BitVec 32 := Scalar.muli v2 c16_i32_21
  let v39 : BitVec 32 := Scalar.addi c0_i32_22 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_13 : BitVec 32 := 2#32
  let v27 : BitVec 32 := Scalar.addi v8 c2_i32_13
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c1_i32_24 : BitVec 32 := 1#32
  let v42 : BitVec 32 := Scalar.muli v37 c1_i32_24
  let v43 : BitVec 32 := Scalar.addi v41 v42
  v43.toNat
def k0_dev3 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v55 : BitVec 32 := Scalar.muli v2 c16_i32_32
  let v56 : BitVec 32 := Scalar.addi c0_i32_33 v55
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_34 : BitVec 32 := 4#32
  let v57 : BitVec 32 := Scalar.muli v5 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v44 : BitVec 32 := Scalar.addi v8 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1_i32_35 : BitVec 32 := 1#32
  let v59 : BitVec 32 := Scalar.muli v54 c1_i32_35
  let v60 : BitVec 32 := Scalar.addi v58 v59
  v60.toNat
def k0_off1 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32 : BitVec 32 := 256#32
  let v61 : BitVec 32 := Scalar.muli v8 c256_i32
  let v64 : Index := Scalar.indexCast v61
  let c0_38 : Index := 0#32
  ![v64.toNat, 0]
def k0_off2 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32 : BitVec 32 := 256#32
  let v61 : BitVec 32 := Scalar.muli v8 c256_i32
  let c0_i32_52 : BitVec 32 := 0#32
  ![v61.toNat, 0]
def k0_dev4 (d0 : Dev nD) : Nat :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_48 : BitVec 32 := 16#32
  let v77 : BitVec 32 := Scalar.muli v2 c16_i32_48
  let v78 : BitVec 32 := Scalar.addi c0_i32_49 v77
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_50 : BitVec 32 := 4#32
  let v79 : BitVec 32 := Scalar.muli v5 c4_i32_50
  let v80 : BitVec 32 := Scalar.addi v78 v79
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v66 : BitVec 32 := Scalar.addi v8 c1_i32_39
  let c4_i32_40 : BitVec 32 := 4#32
  let c0_i32_41 : BitVec 32 := 0#32
  let v67 : BitVec 1 := Scalar.cmpi .eq c4_i32_40 c0_i32_41
  let c1_i32_42 : BitVec 32 := 1#32
  let v68 : BitVec 32 := Scalar.select v67 c1_i32_42 c4_i32_40
  let v69 : BitVec 32 := Scalar.remsi v66 v68
  let c0_i32_44 : BitVec 32 := 0#32
  let v71 : BitVec 1 := Scalar.cmpi .slt v69 c0_i32_44
  let c0_i32_45 : BitVec 32 := 0#32
  let v72 : BitVec 1 := Scalar.cmpi .slt v68 c0_i32_45
  let v73 : BitVec 1 := Scalar.xori v71 v72
  let c0_i32_43 : BitVec 32 := 0#32
  let v70 : BitVec 1 := Scalar.cmpi .ne v69 c0_i32_43
  let v74 : BitVec 1 := Scalar.andi v73 v70
  let v75 : BitVec 32 := Scalar.addi v69 v68
  let v76 : BitVec 32 := Scalar.select v74 v75 v69
  let c1_i32_51 : BitVec 32 := 1#32
  let v81 : BitVec 32 := Scalar.muli v76 c1_i32_51
  let v82 : BitVec 32 := Scalar.addi v80 v81
  v82.toNat
def k0_dev5 (d0 : Dev nD) : Nat :=
  let c0_i32_64 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_63 : BitVec 32 := 16#32
  let v100 : BitVec 32 := Scalar.muli v2 c16_i32_63
  let v101 : BitVec 32 := Scalar.addi c0_i32_64 v100
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_65 : BitVec 32 := 4#32
  let v102 : BitVec 32 := Scalar.muli v5 c4_i32_65
  let v103 : BitVec 32 := Scalar.addi v101 v102
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_54 : BitVec 32 := 2#32
  let v89 : BitVec 32 := Scalar.addi v8 c2_i32_54
  let c4_i32_55 : BitVec 32 := 4#32
  let c0_i32_56 : BitVec 32 := 0#32
  let v90 : BitVec 1 := Scalar.cmpi .eq c4_i32_55 c0_i32_56
  let c1_i32_57 : BitVec 32 := 1#32
  let v91 : BitVec 32 := Scalar.select v90 c1_i32_57 c4_i32_55
  let v92 : BitVec 32 := Scalar.remsi v89 v91
  let c0_i32_59 : BitVec 32 := 0#32
  let v94 : BitVec 1 := Scalar.cmpi .slt v92 c0_i32_59
  let c0_i32_60 : BitVec 32 := 0#32
  let v95 : BitVec 1 := Scalar.cmpi .slt v91 c0_i32_60
  let v96 : BitVec 1 := Scalar.xori v94 v95
  let c0_i32_58 : BitVec 32 := 0#32
  let v93 : BitVec 1 := Scalar.cmpi .ne v92 c0_i32_58
  let v97 : BitVec 1 := Scalar.andi v96 v93
  let v98 : BitVec 32 := Scalar.addi v92 v91
  let v99 : BitVec 32 := Scalar.select v97 v98 v92
  let c1_i32_66 : BitVec 32 := 1#32
  let v104 : BitVec 32 := Scalar.muli v99 c1_i32_66
  let v105 : BitVec 32 := Scalar.addi v103 v104
  v105.toNat
def k0_dev6 (d0 : Dev nD) : Nat :=
  let c0_i32_79 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_78 : BitVec 32 := 16#32
  let v123 : BitVec 32 := Scalar.muli v2 c16_i32_78
  let v124 : BitVec 32 := Scalar.addi c0_i32_79 v123
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_80 : BitVec 32 := 4#32
  let v125 : BitVec 32 := Scalar.muli v5 c4_i32_80
  let v126 : BitVec 32 := Scalar.addi v124 v125
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_69 : BitVec 32 := 3#32
  let v112 : BitVec 32 := Scalar.addi v8 c3_i32_69
  let c4_i32_70 : BitVec 32 := 4#32
  let c0_i32_71 : BitVec 32 := 0#32
  let v113 : BitVec 1 := Scalar.cmpi .eq c4_i32_70 c0_i32_71
  let c1_i32_72 : BitVec 32 := 1#32
  let v114 : BitVec 32 := Scalar.select v113 c1_i32_72 c4_i32_70
  let v115 : BitVec 32 := Scalar.remsi v112 v114
  let c0_i32_74 : BitVec 32 := 0#32
  let v117 : BitVec 1 := Scalar.cmpi .slt v115 c0_i32_74
  let c0_i32_75 : BitVec 32 := 0#32
  let v118 : BitVec 1 := Scalar.cmpi .slt v114 c0_i32_75
  let v119 : BitVec 1 := Scalar.xori v117 v118
  let c0_i32_73 : BitVec 32 := 0#32
  let v116 : BitVec 1 := Scalar.cmpi .ne v115 c0_i32_73
  let v120 : BitVec 1 := Scalar.andi v119 v116
  let v121 : BitVec 32 := Scalar.addi v115 v114
  let v122 : BitVec 32 := Scalar.select v120 v121 v115
  let c1_i32_81 : BitVec 32 := 1#32
  let v127 : BitVec 32 := Scalar.muli v122 c1_i32_81
  let v128 : BitVec 32 := Scalar.addi v126 v127
  v128.toNat
def k0_off3 (d0 : Dev nD) (c1_i32_84 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v135 : BitVec 32 := Scalar.subi v8 c1_i32_84
  let c4_i32_85 : BitVec 32 := 4#32
  let c0_i32_86 : BitVec 32 := 0#32
  let v136 : BitVec 1 := Scalar.cmpi .eq c4_i32_85 c0_i32_86
  let c1_i32_87 : BitVec 32 := 1#32
  let v137 : BitVec 32 := Scalar.select v136 c1_i32_87 c4_i32_85
  let v138 : BitVec 32 := Scalar.remsi v135 v137
  let c0_i32_89 : BitVec 32 := 0#32
  let v140 : BitVec 1 := Scalar.cmpi .slt v138 c0_i32_89
  let c0_i32_90 : BitVec 32 := 0#32
  let v141 : BitVec 1 := Scalar.cmpi .slt v137 c0_i32_90
  let v142 : BitVec 1 := Scalar.xori v140 v141
  let c0_i32_88 : BitVec 32 := 0#32
  let v139 : BitVec 1 := Scalar.cmpi .ne v138 c0_i32_88
  let v143 : BitVec 1 := Scalar.andi v142 v139
  let v144 : BitVec 32 := Scalar.addi v138 v137
  let v145 : BitVec 32 := Scalar.select v143 v144 v138
  let c256_i32_91 : BitVec 32 := 256#32
  let v146 : BitVec 32 := Scalar.muli v145 c256_i32_91
  let c0_i32_105 : BitVec 32 := 0#32
  ![v146.toNat, 0]
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x256 : Shape := ⟨2, ![1024, 256]⟩

abbrev nBuf : Space → Nat
  | .hbm => 1
  | .vmem => 0
  | .smem => 0
  | _ => 0

abbrev bufTy : (tb : Table) → Fin (tcTables nBuf tb) → BufTy
  | .hbm, ⟨0, _⟩ => ⟨S1024x256, .bf16⟩
  | _, _ => ⟨S1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Mesh.lean ====
/-
The mesh, the row blocks and the semaphores of the all-gather along `z`.

The mesh is `x = 2, y = 4, z = 4`, so device `c` stands at place `c % 4` of its group of four along `z`.
A device puts its own 256 rows at rows `256 * (c % 4)` of a 1024-row staging buffer and copies them to the
same rows of the three other devices of its group. Lane `k : Fin 3` is the traffic at distance `k + 1`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ViewIndex
public import Idealize.ShloMosaic.Lib.Tactic

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Devices -/

set_option backward.proofsInPublic true in
/-- The device of `c`'s group that stands at place `p`. -/
def member (c : Dev nD) (p : ℕ) : Dev nD :=
  ⟨c.val / 4 * 4 + p % 4, by have h : c.val < 32 := c.isLt; show _ < 32; omega⟩

/-- The device `k + 1` places after `c` in its group, around the ring of four: where lane `k` of `c` sends. -/
def dst (k : Fin 3) (c : Dev nD) : Dev nD := member c (c.val + k.val + 1)
/-- The device `k + 1` places before `c`: whence lane `k` of `c` receives. -/
def src (k : Fin 3) (c : Dev nD) : Dev nD := member c (c.val + 3 - k.val)

theorem src_dst (k : Fin 3) (c : Dev nD) : src k (dst k c) = c := by revert k c; decide
theorem dst_src (k : Fin 3) (c : Dev nD) : dst k (src k c) = c := by revert k c; decide
/-- Going `k + 1` places back is going `3 - k` places on. -/
theorem src_eq (k : Fin 3) (c : Dev nD) : src k c = dst k.rev c := by revert k c; decide
theorem src_rev (k : Fin 3) (c : Dev nD) : src k.rev c = dst k c := by revert k c; decide

/-- The three devices signalled and the three copied to are those at distance 1, 2, 3. -/
theorem dev1_eq (c : Dev nD) : (⟨k0_dev1 c, k0_dev1_lt c⟩ : Dev nD) = dst 0 c := by revert c; decide +kernel
theorem dev2_eq (c : Dev nD) : (⟨k0_dev2 c, k0_dev2_lt c⟩ : Dev nD) = dst 1 c := by revert c; decide +kernel
theorem dev3_eq (c : Dev nD) : (⟨k0_dev3 c, k0_dev3_lt c⟩ : Dev nD) = dst 2 c := by revert c; decide +kernel
theorem dev4_eq (c : Dev nD) : (⟨k0_dev4 c, k0_dev4_lt c⟩ : Dev nD) = dst 0 c := by revert c; decide +kernel
theorem dev5_eq (c : Dev nD) : (⟨k0_dev5 c, k0_dev5_lt c⟩ : Dev nD) = dst 1 c := by revert c; decide +kernel
theorem dev6_eq (c : Dev nD) : (⟨k0_dev6 c, k0_dev6_lt c⟩ : Dev nD) = dst 2 c := by revert c; decide +kernel

/-! ## Memrefs, semaphores, cells -/

/-- The staging buffers of the operand and of the result. -/
abbrev xM : Memref sig .tc .vmem S256x256 .bf16 := Memref.whole cc0_stg0_0
abbrev oM : Memref sig .tc .vmem S1024x256 .bf16 := Memref.whole cc0_stg1_0
/-- The rows of the result staging buffer that are device `c`'s, as its copies name them. -/
abbrev rowsM (c : Dev nD) : Memref sig .tc .vmem S256x256 .bf16 :=
  oM.slice (Rect.unit (s := S1024x256) (k0_off2 c) S256x256.size (k0_off2_inb c)) (fun _ => rfl)
/-- The same rows, as its store names them. -/
abbrev rowsR (c : Dev nD) : Rect S1024x256 := Rect.unit (s := S1024x256) (k0_off1 c) S256x256.size (k0_off1_inb c)

/-- The runtime's barrier semaphore; the DMA semaphores lane `k` sends and receives on. -/
abbrev barS : Sem sig := (SemArray.scalar (sig.barrier 0 rfl) : Sems sig S_).sem
abbrev sendS : Fin 3 → DmaSem sig := fun | 0 => 2 | 1 => 3 | 2 => 4
abbrev recvS : Fin 3 → DmaSem sig := fun | 0 => 5 | 1 => 6 | 2 => 7

abbrev barCell (c : Dev nD) : GSem nD τ sig := ((c : Thread nD τ), .reg barS)
abbrev sendCell (k : Fin 3) (c : Dev nD) : GSem nD τ sig := ((c : Thread nD τ), .dma (sendS k))
abbrev recvCell (k : Fin 3) (c : Dev nD) : GSem nD τ sig := ((c : Thread nD τ), .dma (recvS k))

/-- What one copy of 256 rows is worth on a DMA semaphore. -/
def N : ℕ := sig.dmaCredit .tc (Kind.tc.table .vmem) (View.whole cc0_stg1_0).buf S256x256 .bf16
/-- So is any 256 rows of the buffer, wherever they begin. -/
theorem credit_eq (off : Fin 2 → ℕ) (inb : ∀ a, off a + S256x256.size a ≤ S1024x256.size a) :
    (oM.slice (Rect.unit (s := S1024x256) off S256x256.size inb) (fun _ => rfl)).view.dmaCredit = N := rfl
theorem N_pos : 0 < N := credit_eq (k0_off2 0) (k0_off2_inb 0) ▸ View.dmaCredit_pos _ (by decide)

/-! ## Row blocks -/

/-- The entries of the 1024-row buffer in device `d`'s rows. -/
@[irreducible] def blockOf (d : Dev nD) : Finset S1024x256.Idx := Finset.univ.filter fun i => (i 0).val / 256 = d.val % 4

theorem mem_blockOf {d : Dev nD} {i : S1024x256.Idx} : i ∈ blockOf d ↔ (i 0).val / 256 = d.val % 4 := by
  unfold blockOf; rw [Finset.mem_filter]; exact and_iff_right (Finset.mem_univ _)

/-- A rectangle of 256 whole rows starting at `256 * (d % 4)` is that block. -/
theorem rect_set (d : Dev nD) (off : Fin 2 → ℕ) (h : off = ![256 * (d.val % 4), 0]) (inb) :
    (Rect.unit (s := S1024x256) off S256x256.size inb).set = blockOf d := by
  ext i
  rw [Rect.mem_set_unit, mem_blockOf, Fin.forall_fin_two, h]
  have h1 : (i 1).val < 256 := (i 1).isLt
  show (256 * (d.val % 4) ≤ (i 0).val ∧ (i 0).val < 256 * (d.val % 4) + 256) ∧ (0 ≤ (i 1).val ∧ (i 1).val < 0 + 256) ↔ _
  omega

theorem rowsM_set (c : Dev nD) : (rowsM c).view.set = blockOf c :=
  (View.set_slice_whole cc0_stg1_0 _).trans (rect_set c _ (k0_off2_eq c) _)
theorem rowsR_set (c : Dev nD) : (oM.access (rowsR c)).set = blockOf c :=
  (View.set_slice_whole cc0_stg1_0 _).trans (rect_set c _ (k0_off1_eq c) _)

end Cert.Gather

end
-- ==== Proof.Rows.lean ====
/-
What the buffers hold: the operand block a device stages, the gathered array, and the result staging buffer
taken apart into its four row blocks and put together again.
-/
module

public import proofs.«01_k».proof.Proof.Mesh
public import Idealize.ShloMosaic.Lib.Ring.Trips
public import Idealize.ShloMosaic.Lib.Pipeline.Value

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Ghost state: the staging pipeline's rounds beside those of the barrier and copy semaphores, whose duties are
    named by lane. -/
abbrev UG : Type := URounds (GSem nD τ sig) (Fin 3)
abbrev UU : Type := UR sig nD τ × UG

local notation "𝕄" => MT nD τ sig Unit (Elt F) ℕ UU ℕ

abbrev EP : Emb (UR sig nD τ) (MT nD τ sig Unit (Elt F) ℕ UU ℕ) := embL
abbrev EG : Emb UG (MT nD τ sig Unit (Elt F) ℕ UU ℕ) := embR

variable (m : (ℓ : Loc nD τ sig) → Buf (Elt F) ℓ) (ρ : Dev nD → PrngReg)

/-- The launch memory: contents `m`, semaphores at zero, generator registers `ρ`. -/
def s₀ : MemSt nD τ sig (Elt F) := ⟨m, fun _ => 0, ρ⟩

/-- The operand block staged on device `c`: all of its argument. -/
def xstg (c : Dev nD) : (cc0_stg0_0 : Ref sig .tc).ty.Contents (Elt F) :=
  (win0_0.blk (0 : Fin 1)).view.read (Elt F) ((s₀ m ρ).mem ((c : Thread nD τ).loc main_arg0))

/-- A place of the 1024-row array, within its block of 256 rows. -/
def within (i : S1024x256.Idx) : S256x256.Idx := fun a => match a with
  | ⟨0, _⟩ => ⟨(i 0).val % 256, Nat.mod_lt _ (by decide)⟩
  | ⟨1, _⟩ => i 1

/-- The gathered array on device `c`: row block `p` is the operand of the device at place `p` of `c`'s group. -/
def gathered (c : Dev nD) : (cc0_stg1_0 : Ref sig .tc).ty.Contents (Elt F) :=
  fun i : S1024x256.Idx => xstg m ρ (member c ((i 0).val / 256)) (within i)

theorem member_dst (k : Fin 3) (c : Dev nD) (p : Fin 4) : member (dst k c) p = member c p := by revert k c p; decide
theorem member_self (c : Dev nD) : member c c.val = c := by revert c; decide

omit [FloatOps F] in
/-- The devices of one group gather one array. -/
theorem gathered_dst (k : Fin 3) (c : Dev nD) : gathered m ρ (dst k c) = gathered m ρ c := by
  funext i
  have h : (i 0).val / 256 < 4 := by have : (i 0).val < 1024 := (i 0).isLt; omega
  exact congrArg (fun d => xstg m ρ d (within i)) (member_dst k c ⟨_, h⟩)

omit [FloatOps F] in
/-- In device `c`'s rows the gathered array is `c`'s operand. -/
theorem gathered_own (c : Dev nD) (i : S1024x256.Idx) (hi : i ∈ blockOf c) : gathered m ρ c i = xstg m ρ c (within i) := by
  have h : member c ((i 0).val / 256) = c := by
    rw [mem_blockOf.mp hi]
    refine Eq.trans ?_ (member_self c)
    unfold member; simp only [Nat.mod_mod]
  exact congrArg (fun d => xstg m ρ d (within i)) h

/-- Through any view: written with what it reads of contents `g`, a buffer holds `g` at the view's entries. -/
theorem write_read_on {κ : Kind} {sp : Space} {s : Shape} {e : EltTy} {Val : EltTy → Type} (v : View sig κ sp s e) (f g : v.ty.Contents Val)
    {i : v.ty.Idx} (hi : i ∈ v.set) : v.write Val f (v.read Val g) Finset.univ i = g i := by
  obtain ⟨x, rfl⟩ := View.exists_emb_of_mem_set v hi
  exact View.eq_of_read_eq (congrFun (View.read_write_univ f _) x)

omit [FloatOps F] in
/-- A row block written from the same rows of contents `g` holds `g` there. -/
theorem copied_eq (d : Dev nD) (f g : (cc0_stg1_0 : Ref sig .tc).ty.Contents (Elt F)) (i : S1024x256.Idx) (hi : i ∈ blockOf d) :
    (rowsM d).view.write (Elt F) f ((rowsM d).view.read (Elt F) g) Finset.univ i = g i :=
  write_read_on (rowsM d).view f g (by rw [rowsM_set]; exact hi)

omit [FloatOps F] in
/-- Device `c`'s operand stored in its rows is the gathered array there. -/
theorem stored_eq (c : Dev nD) (f : (cc0_stg1_0 : Ref sig .tc).ty.Contents (Elt F)) (i : S1024x256.Idx) (hi : i ∈ blockOf c) :
    (oM.access (rowsR c)).write (Elt F) f (k0_pay1 (xstg m ρ c)) Finset.univ i = gathered m ρ c i := by
  rw [gathered_own m ρ c i hi]
  rw [← rowsR_set] at hi
  obtain ⟨x, rfl⟩ := View.exists_of_mem_set_slice hi
  have hx : within ((rowsR c).emb x) = x := by
    have h0 : (x 0).val < 256 := (x 0).isLt
    have e0 : ((rowsR c).emb x 0).val = 256 * (c.val % 4) + 1 * (x 0).val := by
      rw [Rect.emb_apply]; show k0_off1 c 0 + 1 * _ = _; rw [k0_off1_eq]; rfl
    have e1 : ((rowsR c).emb x 1).val = 0 + 1 * (x 1).val := by
      rw [Rect.emb_apply]; show k0_off1 c 1 + 1 * _ = _; rw [k0_off1_eq]; rfl
    funext a
    match a with
    | ⟨0, _⟩ => exact Fin.ext (by show ((rowsR c).emb x 0).val % 256 = _; rw [e0]; show _ = (x 0).val; omega)
    | ⟨1, _⟩ => exact Fin.ext (by show ((rowsR c).emb x 1).val = _; rw [e1]; show _ = (x 1).val; omega)
  have hw : k0_pay1 (xstg m ρ c) = xstg m ρ c := shapeCast_self _ _
  rw [hw]
  refine Eq.trans (View.write_emb_of_mem (v := oM.access (rowsR c)) f _ (Finset.mem_univ x)) ?_
  exact congrArg (xstg m ρ c) hx.symm

/-! ## The staging buffer in parts -/

/-- Device `c`'s result staging buffer, a share of the entries `S` at contents `f`. -/
def hold (c : Dev nD) (q : PosShare TreeShare) (S : Finset S1024x256.Idx) (f : (cc0_stg1_0 : Ref sig .tc).ty.Contents (Elt F)) : sProp 𝕄 :=
  ((c : Thread nD τ).loc cc0_stg1_0) ↦[S]{q} f

omit [FloatOps F] in
instance hold_storable (c : Dev nD) (q S f) : BI.Storable (upEmb : UEmb _ 𝕄) (hold (F := F) c q S f) := by
  unfold hold; infer_instance

omit [FloatOps F] in
theorem hold_congr (c : Dev nD) (q : PosShare TreeShare) (S : Finset S1024x256.Idx) {f g : (cc0_stg1_0 : Ref sig .tc).ty.Contents (Elt F)}
    (h : ∀ i ∈ S, f i = g i) : (hold c q S f : sProp 𝕄) = hold c q S g := pointsTo_congr h

/-- The device whose rows part `t` of `c`'s buffer is: itself, then the ends of its lanes. -/
def owner (c : Dev nD) : Fin 4 → Dev nD := fun | 0 => c | 1 => dst 0 c | 2 => dst 1 c | 3 => dst 2 c

theorem owner_val (c : Dev nD) (t : Fin 4) : (owner c t).val % 4 = (c.val + t.val) % 4 := by revert c t; decide

theorem owner_disjoint (c : Dev nD) : ∀ t ∈ (Finset.univ : Finset (Fin 4)), ∀ t' ∈ (Finset.univ : Finset (Fin 4)), t ≠ t' →
    Disjoint (blockOf (owner c t)) (blockOf (owner c t')) := by
  intro t _ t' _ h
  rw [Finset.disjoint_left]
  intro i hi hi'
  rw [mem_blockOf, owner_val] at hi hi'
  exact h (Fin.ext (by omega))

theorem owner_cover (c : Dev nD) : (Finset.univ : Finset (Fin 4)).biUnion (fun t => blockOf (owner c t)) = Finset.univ := by
  ext i
  rw [Finset.mem_biUnion]
  refine iff_of_true ?_ (Finset.mem_univ i)
  have hi : (i 0).val < 1024 := (i 0).isLt
  refine ⟨⟨((i 0).val / 256 + 4 - c.val % 4) % 4, Nat.mod_lt _ (by decide)⟩, Finset.mem_univ _, ?_⟩
  rw [mem_blockOf, owner_val]
  show _ = (c.val + ((i 0).val / 256 + 4 - c.val % 4) % 4) % 4
  omega

omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- The whole buffer is the device's own rows and those of its three peers. -/
theorem hold_parts (c : Dev nD) (f : (cc0_stg1_0 : Ref sig .tc).ty.Contents (Elt F)) :
    ((((c : Thread nD τ).loc cc0_stg1_0) ↦{fullShare} f) : sProp 𝕄)
      = iprop(hold c fullShare (blockOf c) f ∗ hold c fullShare (blockOf (dst 0 c)) f
          ∗ hold c fullShare (blockOf (dst 1 c)) f ∗ hold c fullShare (blockOf (dst 2 c)) f) := by
  have h := pointsTo_biUnion (Ix := Unit) (Name := ℕ) (U := UU) (Lvl := ℕ) (ℓ := (c : Thread nD τ).loc cc0_stg1_0) (q := fullShare) (f := f)
    Finset.univ (fun t => blockOf (owner c t)) (owner_disjoint c)
  rw [owner_cover] at h
  exact h.trans (bigSep_four fun t => hold c fullShare (blockOf (owner c t)) f)

/-- The share of its own rows that lane `k`'s copy reads at. -/
abbrev third (k : Fin 3) : PosShare TreeShare := Ring.shares3 fullShare k

omit [FloatOps F] in
/-- Rows held whole are held in three shares. -/
theorem hold_thirds (c : Dev nD) (S : Finset S1024x256.Idx) (f : (cc0_stg1_0 : Ref sig .tc).ty.Contents (Elt F)) :
    (hold c fullShare S f : sProp 𝕄) ⊣⊢ iprop(hold c (third 0) S f ∗ hold c (third 1) S f ∗ hold c (third 2) S f) :=
  Ring.pointsTo_thirds _ _

end Cert.Gather

end
-- ==== Proof.Protocol.lean ====
/-
The protocol. Every device has seven cells: its barrier semaphore and, for each lane, a send and a receive DMA
semaphore. Each is used for one round.

* Barrier cell of `c`: lane `k`'s unit comes from `src k c`, and with it the right to write `c`'s rows of that
  device's result staging buffer.
* Send cell `k` of `c`: the copy's credit, and with it the share of `c`'s own rows that the copy read.
* Receive cell `k` of `c`: the copy's credit, and with it the rows of `src k c` in `c`'s own buffer, now holding the
  gathered array.

At launch a device owes each of its three peers a barrier unit and a copy.
-/
module

public import proofs.«01_k».proof.Proof.Rows

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Cells -/

/-- The kernel's own semaphores: a send (left) and a receive (right) for each lane. -/
abbrev Own : Type := Fin 3 ⊕ Fin 3
/-- With the barrier semaphore, all that the protocol uses. -/
abbrev Role : Type := Unit ⊕ Own

abbrev osem : Own → SemLoc sig := fun | .inl k => .dma (sendS k) | .inr k => .dma (recvS k)
abbrev csem : Role → SemLoc sig := fun | .inl _ => .reg barS | .inr o => osem o
abbrev kcell (cr : Dev nD × Role) : GSem nD τ sig := ((cr.1 : Thread nD τ), csem cr.2)

abbrev roles : List Role :=
  [.inl (), .inr (.inl 0), .inr (.inl 1), .inr (.inl 2), .inr (.inr 0), .inr (.inr 1), .inr (.inr 2)]

/-- Which of a device's seven cells a semaphore is. -/
def role (sm : SemLoc sig) : Option Role := roles.find? fun r => csem r = sm

theorem role_csem (r : Role) : role (csem r) = some r := by revert r; decide
theorem role_bar : role (.reg barS) = some (.inl ()) := role_csem (.inl ())
theorem role_send (k : Fin 3) : role (.dma (sendS k)) = some (.inr (.inl k)) := role_csem (.inr (.inl k))
theorem role_recv (k : Fin 3) : role (.dma (recvS k)) = some (.inr (.inr k)) := role_csem (.inr (.inr k))

theorem csem_injective : Function.Injective csem := fun a b h =>
  Option.some.inj ((role_csem a).symm.trans ((congrArg role h).trans (role_csem b)))

theorem kcell_injective : Function.Injective (kcell : Dev nD × Role → GSem nD τ sig) := by
  rintro ⟨c, r⟩ ⟨c', r'⟩ h
  have hc : c = c' := congrArg (fun g : GSem nD τ sig => g.1.1) h
  have hr : r = r' := csem_injective (congrArg Prod.snd h)
  rw [hc, hr]

theorem kcell_eq_iff {a b : Dev nD} {r s : Role} : kcell (a, r) = kcell (b, s) ↔ a = b ∧ r = s :=
  ⟨fun h => Prod.mk.inj (kcell_injective h), fun h => by rw [h.1, h.2]⟩

/-! ## The schedule -/

/-- Lane `k` of `c`'s barrier: `c`'s rows of `src k c`'s buffer, whatever they hold. -/
def barPay (k : Fin 3) (c : Dev nD) : sProp 𝕄 := iprop(∃ f, hold (src k c) fullShare (blockOf c) f)
/-- Lane `k`'s copy out of `c` read: a third of `c`'s own rows. -/
def sendPay (k : Fin 3) (c : Dev nD) : sProp 𝕄 := hold c (third k) (blockOf c) (gathered m ρ c)
/-- Lane `k`'s copy into `c` wrote: the rows of `src k c`. -/
def recvPay (k : Fin 3) (c : Dev nD) : sProp 𝕄 := hold c fullShare (blockOf (src k c)) (gathered m ρ c)

/-- A cell's one round: a barrier cell's duties are the three lanes, one unit each; a DMA cell's is one copy. -/
def plan : Rounds.Schedule (GSem nD τ sig) (Fin 3) 𝕄 where
  duties g r := if r = 0 ∧ g.1.2 = .tc then (match role g.2 with | none => ∅ | some (.inl _) => Finset.univ | some (.inr _) => {0}) else ∅
  unitless _ := False
  amount g _ _ := match role g.2 with | some (.inl _) => 1 | _ => N
  payload g _ d := match role g.2 with
    | some (.inl _) => barPay d g.1.1
    | some (.inr (.inl k)) => sendPay m ρ k g.1.1
    | some (.inr (.inr k)) => recvPay m ρ k g.1.1
    | none => iprop(emp)
  amount_pos g _ _ _ := by
    show 0 < (match role g.2 with | some (.inl _) => 1 | _ => N)
    split
    · exact Nat.one_pos
    · exact N_pos

instance plan_payload_storable (g : GSem nD τ sig) (r : ℕ) (d : Fin 3) :
    BI.Storable (upEmb : UEmb _ 𝕄) ((plan (F := F) m ρ).payload g r d) := by
  dsimp only [plan]
  unfold barPay sendPay recvPay
  split <;> infer_instance

section Facts

variable (k : Fin 3) (c : Dev nD)

omit [FloatOps F] in
theorem duties_bar : (plan (F := F) m ρ).duties (barCell c) 0 = Finset.univ := by
  dsimp only [plan]; rw [if_pos ⟨rfl, rfl⟩, role_bar]
omit [FloatOps F] in
theorem duties_send : (plan (F := F) m ρ).duties (sendCell k c) 0 = {0} := by
  dsimp only [plan]; rw [if_pos ⟨rfl, rfl⟩, role_send]
omit [FloatOps F] in
theorem duties_recv : (plan (F := F) m ρ).duties (recvCell k c) 0 = {0} := by
  dsimp only [plan]; rw [if_pos ⟨rfl, rfl⟩, role_recv]
omit [FloatOps F] in
/-- No cell has a second round. -/
theorem duties_later (g : GSem nD τ sig) : ∀ r, 1 ≤ r → (plan (F := F) m ρ).duties g r = ∅ :=
  fun r hr => by dsimp only [plan]; exact if_neg fun h => by omega

omit [FloatOps F] in
theorem amount_bar (d : Fin 3) : (plan (F := F) m ρ).amount (barCell c) 0 d = 1 := by dsimp only [plan]; rw [role_bar]
omit [FloatOps F] in
theorem amount_send (d : Fin 3) : (plan (F := F) m ρ).amount (sendCell k c) 0 d = N := by dsimp only [plan]; rw [role_send]
omit [FloatOps F] in
theorem amount_recv (d : Fin 3) : (plan (F := F) m ρ).amount (recvCell k c) 0 d = N := by dsimp only [plan]; rw [role_recv]

omit [FloatOps F] in
theorem payload_bar (d : Fin 3) : (plan (F := F) m ρ).payload (barCell c) 0 d = barPay d c := by dsimp only [plan]; rw [role_bar]
omit [FloatOps F] in
theorem payload_send (d : Fin 3) : (plan (F := F) m ρ).payload (sendCell k c) 0 d = sendPay m ρ k c := by dsimp only [plan]; rw [role_send]
omit [FloatOps F] in
theorem payload_recv (d : Fin 3) : (plan (F := F) m ρ).payload (recvCell k c) 0 d = recvPay m ρ k c := by dsimp only [plan]; rw [role_recv]

omit [FloatOps F] in
/-- The barrier's round is three units, a DMA cell's one copy's credit. -/
theorem expect_bar : (plan (F := F) m ρ).expect (barCell c) 0 = 3 := by
  unfold Schedule.expect Schedule.amountOf
  rw [duties_bar, Finset.sum_congr rfl fun d _ => amount_bar m ρ c d]; rfl
omit [FloatOps F] in
theorem expect_send : (plan (F := F) m ρ).expect (sendCell k c) 0 = N := by
  unfold Schedule.expect Schedule.amountOf; rw [duties_send, Finset.sum_singleton, amount_send]
omit [FloatOps F] in
theorem expect_recv : (plan (F := F) m ρ).expect (recvCell k c) 0 = N := by
  unfold Schedule.expect Schedule.amountOf; rw [duties_recv, Finset.sum_singleton, amount_recv]

omit [FloatOps F] in
theorem bigSep_lanes (Φ : Fin 3 → sProp 𝕄) : bigSep Finset.univ Φ = iprop(Φ 0 ∗ Φ 1 ∗ Φ 2) :=
  bigSep_univ_eq_bigSepL [0, 1, 2] (by decide) (by decide) Φ

omit [FloatOps F] in
/-- All that a cell's round hands over. -/
theorem rest_bar : bigSep ((plan (F := F) m ρ).duties (barCell c) 0 \ ∅) (fun d => (plan (F := F) m ρ).payload (barCell c) 0 d)
    = iprop(barPay 0 c ∗ barPay 1 c ∗ barPay 2 c) := by
  rw [Finset.sdiff_empty, duties_bar, bigSep_lanes, payload_bar, payload_bar, payload_bar]
omit [FloatOps F] in
theorem rest_send : bigSep ((plan (F := F) m ρ).duties (sendCell k c) 0 \ ∅) (fun d => (plan (F := F) m ρ).payload (sendCell k c) 0 d)
    = sendPay m ρ k c := by
  rw [Finset.sdiff_empty, duties_send, bigSep_singleton, payload_send]
omit [FloatOps F] in
theorem rest_recv : bigSep ((plan (F := F) m ρ).duties (recvCell k c) 0 \ ∅) (fun d => (plan (F := F) m ρ).payload (recvCell k c) 0 d)
    = recvPay m ρ k c := by
  rw [Finset.sdiff_empty, duties_recv, bigSep_singleton, payload_recv]

end Facts

/-! ## Debts and levels -/

/-- Lane `k`'s copy, owed to its receiver; lane `k`'s barrier unit. -/
def copyDue (k : Fin 3) (c : Dev nD) : CellTallies nD τ sig Unit := tallyAt (recvCell k (dst k c)) () N
def unitDue (k : Fin 3) (c : Dev nD) : CellTallies nD τ sig Unit := tallyAt (barCell (dst k c)) () 1

/-- The debts of a device that has still `3`, `2`, `1` or `0` copies to make. -/
def copies (c : Dev nD) : Fin 4 → CellTallies nD τ sig Unit
  | 0 => 0
  | 1 => 0 + copyDue 2 c
  | 2 => 0 + copyDue 2 c + copyDue 1 c
  | 3 => 0 + copyDue 2 c + copyDue 1 c + copyDue 0 c
/-- The debts at launch: the copies, and the units on top in the order they are paid. -/
def O₀ (c : Dev nD) : CellTallies nD τ sig Unit := copies c 3 + unitDue 2 c + unitDue 1 c + unitDue 0 c

def L (g : GSem nD τ sig) : Finset Unit := if g.1.2 = .tc then {()} else ∅
/-- Barrier cells are waited on before receive cells are paid; all other cells lie below both. -/
def lv (g : GSem nD τ sig) (_ : Unit) : ℕ := match role g.2 with | some (.inl _) => 1 | some (.inr (.inr _)) => 2 | _ => 0

theorem L_of_ne (g : GSem nD τ sig) (h : g.1.2 ≠ .tc) : L g = ∅ := if_neg h
theorem mem_L (c : Dev nD) (sm : SemLoc sig) : () ∈ L ((c : Thread nD τ), sm) := by
  rw [show L ((c : Thread nD τ), sm) = {()} from if_pos rfl]; exact Finset.mem_singleton_self _
theorem lv_bar (c : Dev nD) : lv (barCell c) () = 1 := by dsimp only [lv]; rw [role_bar]
theorem lv_recv (k : Fin 3) (c : Dev nD) : lv (recvCell k c) () = 2 := by dsimp only [lv]; rw [role_recv]

theorem copyDue_apply (k : Fin 3) (d : Dev nD) (cr : Dev nD × Role) :
    copyDue k d (kcell cr) () = if d = src k cr.1 ∧ cr.2 = .inr (.inr k) then N else 0 := by
  unfold copyDue
  rw [show recvCell k (dst k d) = kcell (dst k d, .inr (.inr k)) from rfl, tallyAt_apply]
  refine if_congr ?_ rfl rfl
  rw [and_iff_left rfl, kcell_eq_iff]
  refine and_congr_left fun _ => ⟨fun h => by rw [h, src_dst], fun h => by rw [h, dst_src]⟩

theorem unitDue_apply (k : Fin 3) (d : Dev nD) (cr : Dev nD × Role) :
    unitDue k d (kcell cr) () = if d = src k cr.1 ∧ cr.2 = .inl () then 1 else 0 := by
  unfold unitDue
  rw [show barCell (dst k d) = kcell (dst k d, .inl ()) from rfl, tallyAt_apply]
  refine if_congr ?_ rfl rfl
  rw [and_iff_left rfl, kcell_eq_iff]
  refine and_congr_left fun _ => ⟨fun h => by rw [h, src_dst], fun h => by rw [h, dst_src]⟩

theorem copyDue_pos {k : Fin 3} {c : Dev nD} {g : GSem nD τ sig} {u : Unit} (h : 0 < copyDue k c g u) : g = recvCell k (dst k c) := by
  unfold copyDue at h; rw [tallyAt_apply] at h
  by_contra hn; rw [if_neg fun h' => hn h'.1] at h; exact Nat.lt_irrefl 0 h
theorem unitDue_pos {k : Fin 3} {c : Dev nD} {g : GSem nD τ sig} {u : Unit} (h : 0 < unitDue k c g u) : g = barCell (dst k c) := by
  unfold unitDue at h; rw [tallyAt_apply] at h
  by_contra hn; rw [if_neg fun h' => hn h'.1] at h; exact Nat.lt_irrefl 0 h

theorem tally_add_pos {A B : CellTallies nD τ sig Unit} {g : GSem nD τ sig} {u : Unit} (h : 0 < (A + B) g u) : 0 < A g u ∨ 0 < B g u := by
  rw [Pi.add_apply, Finsupp.add_apply] at h; omega

/-- Copies are owed to receive cells only. -/
theorem copies_pos {c : Dev nD} {g : GSem nD τ sig} {u : Unit} (h : 0 < copies c 3 g u) : ∃ k d, g = recvCell k d := by
  unfold copies at h
  rcases tally_add_pos h with h | h
  · rcases tally_add_pos h with h | h
    · rcases tally_add_pos h with h | h
      · exact absurd h (Nat.lt_irrefl 0)
      · exact ⟨_, _, copyDue_pos h⟩
    · exact ⟨_, _, copyDue_pos h⟩
  · exact ⟨_, _, copyDue_pos h⟩

theorem O₀_pos {c : Dev nD} {g : GSem nD τ sig} {u : Unit} (h : 0 < O₀ c g u) : (∃ k d, g = recvCell k d) ∨ ∃ d, g = barCell d := by
  unfold O₀ at h
  rcases tally_add_pos h with h | h
  · rcases tally_add_pos h with h | h
    · rcases tally_add_pos h with h | h
      · exact .inl (copies_pos h)
      · exact .inr ⟨_, unitDue_pos h⟩
    · exact .inr ⟨_, unitDue_pos h⟩
  · exact .inr ⟨_, unitDue_pos h⟩

omit [FloatOps F] in
/-- A semaphore outside the protocol may be waited on at launch. -/
theorem mayWait_stage (c : Dev nD) (sm : SemLoc sig) (hs : role sm = none) : (levAts L lv : sProp 𝕄) ⊢ MayWait (c : Thread nD τ) sm () (O₀ c) :=
  MayOwe.of_cut (L := L) (lev := lv) 0 (fun p hp => by rw [Finset.mem_singleton.mp hp]; exact mem_L c sm)
    (fun g u hg => by rcases O₀_pos hg with ⟨k, d, rfl⟩ | ⟨d, rfl⟩ <;> exact mem_L d _)
    (fun p hp => by rw [Finset.mem_singleton.mp hp]; dsimp only [lv]; rw [hs])
    (fun g u hg => by
      rcases O₀_pos hg with ⟨k, d, rfl⟩ | ⟨d, rfl⟩
      · rw [lv_recv]; decide
      · rw [lv_bar]; decide)

omit [FloatOps F] in
/-- A device that owes its three copies only may wait on its barrier. -/
theorem mayWait_bar (c : Dev nD) : (levAts L lv : sProp 𝕄) ⊢ MayWait (c : Thread nD τ) (.reg barS) () (copies c 3) :=
  MayOwe.of_cut (L := L) (lev := lv) 1 (fun p hp => by rw [Finset.mem_singleton.mp hp]; exact mem_L c _)
    (fun g u hg => by obtain ⟨k, d, rfl⟩ := copies_pos hg; exact mem_L d _)
    (fun p hp => by rw [Finset.mem_singleton.mp hp]; exact le_of_eq (lv_bar c))
    (fun g u hg => by obtain ⟨k, d, rfl⟩ := copies_pos hg; rw [lv_recv]; decide)

end Cert.Gather

end
-- ==== Proof.Steps.lean ====
/-
One rule for each kind of step the kernel takes, for any lane: signal a peer's barrier, copy to a peer, wait on a
DMA semaphore, store the device's own rows.
-/
module

public import proofs.«01_k».proof.Proof.Protocol

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What a device starts from -/

/-- Lane `k`'s shared facts on device `c`: the invariants of the four cells it touches, and that they are in round 0. -/
def laneInv (K : Dev nD × Role → ℕ) (k : Fin 3) (c : Dev nD) : sProp 𝕄 :=
  iprop(cellInv EG (plan m ρ) (K (c, .inr (.inl k))) (sendCell k c) ∗ cellInv EG (plan m ρ) (K (c, .inr (.inr k))) (recvCell k c)
    ∗ cellInv EG (plan m ρ) (K (dst k c, .inl ())) (barCell (dst k c)) ∗ cellInv EG (plan m ρ) (K (dst k c, .inr (.inr k))) (recvCell k (dst k c))
    ∗ reached EG (sendCell k c) 0 ∗ reached EG (barCell (dst k c)) 0 ∗ reached EG (recvCell k (dst k c)) 0)

instance laneInv_persistent (K : Dev nD × Role → ℕ) (k : Fin 3) (c : Dev nD) : BI.Persistent (laneInv m ρ K k c) := by
  unfold laneInv; infer_instance

/-- What lane `k` holds on device `c`: its places at the two cells of `c`, and the right to pay its unit and its copy. -/
def laneHeld (k : Fin 3) (c : Dev nD) : sProp 𝕄 :=
  iprop((atPos EG (sendCell k c) 0 ∅ 0 ∗ atPos EG (recvCell k c) 0 ∅ 0)
    ∗ dutyTok EG (barCell (dst k c)) 0 k ∗ dutyTok EG (sendCell k c) 0 0 ∗ dutyTok EG (recvCell k (dst k c)) 0 0)

/-- The ghost state of device `c`: its barrier cell, and its three lanes. -/
def ghost (K : Dev nD × Role → ℕ) (c : Dev nD) : sProp 𝕄 :=
  iprop(cellInv EG (plan m ρ) (K (c, .inl ())) (barCell c) ∗ atPos EG (barCell c) 0 ∅ 0
    ∗ bigSep Finset.univ fun k => iprop(laneInv m ρ K k c ∗ laneHeld k c))

/-- What device `c` is owed at launch: three barrier units, and a copy on each lane. -/
def owed (c : Dev nD) : sProp 𝕄 := iprop(cred (tallyAt (barCell c) () 3) ∗ bigSep Finset.univ fun k => cred (tallyAt (recvCell k c) () N))

def start (c : Dev nD) : sProp 𝕄 := iprop((∃ K, ghost m ρ K c) ∗ owed c ∗ levAts L lv)

/-- At the end every cell reads zero. -/
def done (c : Dev nD) : sProp 𝕄 :=
  iprop(semVal (barCell c) 0 ∗ (bigSep Finset.univ fun k => semVal (sendCell k c) 0) ∗ bigSep Finset.univ fun k => semVal (recvCell k c) 0)

/-- Device `c` owes `O`, whatever it has waited for. -/
def owing (c : Dev nD) (O : CellTallies nD τ sig Unit) : sProp 𝕄 := iprop(∃ W, owes (c : Thread nD τ) O W)

/-! ## Steps -/

section Steps

variable (K : Dev nD × Role → ℕ) (k : Fin 3) (c : Dev nD)

omit [FloatOps F] in
theorem hold_rows (d : Dev nD) (q : PosShare TreeShare) (f : (cc0_stg1_0 : Ref sig .tc).ty.Contents (Elt F)) :
    (hold d q (blockOf c) f : sProp 𝕄) = ((rowsM c).view.loc (d : Thread nD τ) ↦[(rowsM c).view.set]{q} f) := by
  unfold hold; rw [rowsM_set]

/-- SIGNAL: lane `k`'s unit, and with it the peer's rows of this device's buffer. -/
theorem step_signal {α : Type} {Q : α → sProp 𝕄} {kt : PUnit → Prog (TpuEff nD τ sig (Elt F) Λ₀ .tc) α}
    (n : Dev nD) (hn : n = dst k c) (a : ℕ) (ha : a = 1) (O : CellTallies nD τ sig Unit) (f : (cc0_stg1_0 : Ref sig .tc).ty.Contents (Elt F)) :
    iprop(laneInv m ρ K k c ∗ owing c (O + unitDue k c) ∗ dutyTok EG (barCell (dst k c)) 0 k ∗ hold c fullShare (blockOf (dst k c)) f)
      ⊢ iprop((owing c O -∗ wp frame (wpE (defs₀ (F := F)) 𝒱₀ (c : Thread nD τ) none) Set.univ (kt ⟨⟩) Q)
          -∗ wp frame (wpE (defs₀ (F := F)) 𝒱₀ (c : Thread nD τ) none) Set.univ (.op (.semSignal (n : Thread nD τ) barS a) kt) Q) := by
  subst hn; subst ha
  unfold laneInv owing
  iintro ⟨⟨-, -, #HI, -, -, #HR, -⟩, ⟨%W, HO⟩, Ht, Hh⟩ Hk
  iapply (Rounds.wp_signal 𝒱₀ EG (plan m ρ) (c : Thread nD τ) none (dst := (dst k c : Thread nD τ)) (κ := K (dst k c, .inl ()))
      (d := k) (by rw [duties_bar]; exact Finset.mem_univ _) (amount_bar m ρ (dst k c) k) () O rfl) $$ [HO Ht Hh]
  · isplitr; · iexact HI
    isplitl [HO]; · iexact HO
    isplitl [Ht]; · iexact Ht
    isplitl [Hh]
    · rw [payload_bar]; unfold barPay; rw [src_dst]
      iexists f; iexact Hh
    · iexact HR
  iintro HO
  iapply Hk
  iexists W; iexact HO

/-- COPY: lane `k` reads this device's rows at its third and writes them in the peer's buffer. -/
theorem step_copy {α : Type} {Q : α → sProp 𝕄} {kt : PUnit → Prog (TpuEff nD τ sig (Elt F) Λ₀ .tc) α}
    (n : Dev nD) (hn : n = dst k c) (O : CellTallies nD τ sig Unit) (f : (cc0_stg1_0 : Ref sig .tc).ty.Contents (Elt F))
    {hsc : (rowsM c : Memref sig (Dev.tc n : Thread nD τ).2.kind .vmem S256x256 .bf16).view.ref.isScScratch = false}
    {hsrc : (rowsM c).view.WordExact} {hdst : (rowsM c).view.WordExact}
    {hsem : DmaTarget.Typed .vmem (.dma (recvS k)) (.remote (Dev.tc n : Thread nD τ) (rowsM c) (.dma (sendS k)) hsc)} :
    iprop(laneInv m ρ K k c ∗ owing c (O + copyDue k c) ∗ dutyTok EG (sendCell k c) 0 0 ∗ dutyTok EG (recvCell k (dst k c)) 0 0
        ∗ hold c (third k) (blockOf c) (gathered m ρ c) ∗ hold (dst k c) fullShare (blockOf c) f)
      ⊢ iprop(((cred (tallyAt (sendCell k c) () N) ∗ owing c O) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (rowsM c) (.remote (Dev.tc n : Thread nD τ) (rowsM c) (.dma (sendS k)) hsc) (.dma (recvS k)) hsrc hdst hsem) kt) Q) := by
  subst hn
  rw [hold_rows, hold_rows]
  unfold laneInv owing
  iintro ⟨⟨#HIs, -, -, #HIr, #HRs, -, #HRr⟩, ⟨%W, HO⟩, Hts, Htr, Hs, Hd⟩ Hk
  iapply (Rounds.wp_send_pointsTo 𝒱₀ EG (plan m ρ) (c : Thread nD τ) none (κ₁ := K (c, .inr (.inl k))) (κ₂ := K (dst k c, .inr (.inr k)))
    (r₁ := 0) (r₂ := 0) (d₁ := 0) (d₂ := 0) (q := third k) (fs := gathered m ρ c) (fd := f)
    (by rw [duties_send]; exact Finset.mem_singleton_self _) (by rw [duties_recv]; exact Finset.mem_singleton_self _)
    () () N (show (rowsM c).view.amount (.dma (recvS k)) = N from credit_eq (k0_off2 c) (k0_off2_inb c)) (amount_send m ρ k c 0) (amount_recv m ρ k (dst k c) 0) O rfl (W := W)
    (by rw [payload_send]; unfold sendPay; rw [hold_rows])
    (by
      rw [payload_recv]; unfold recvPay
      rw [src_dst, gathered_dst, ← hold_rows c (dst k c)]
      exact Entails.of_eq (hold_congr _ _ _ (copied_eq c f (gathered m ρ c))))) $$ [HO Hts Htr Hs Hd]
  · isplitr; · iexact HIs
    isplitr; · iexact HIr
    isplitl [Hs]; · iexact Hs
    isplitl [Hd]; · iexact Hd
    isplitl [HO]; · iexact HO
    isplitl [Hts]; · iexact Hts
    isplitr; · iexact HRs
    isplitl [Htr]; · iexact Htr
    iexact HRr
  iintro ⟨Hc, HO⟩
  iapply Hk
  isplitl [Hc]; · iexact Hc
  iexists W; iexact HO

/-- DMA WAIT, by a device that owes nothing: the cell's round hands over `P`, and the cell is at zero for good. -/
theorem step_wait {α : Type} {Q : α → sProp 𝕄} {kt : PUnit → Prog (TpuEff nD τ sig (Elt F) Λ₀ .tc) α}
    (q : DmaSem sig) (κ : ℕ) (P : sProp 𝕄) (hx : (plan m ρ).expect ((c : Thread nD τ), .dma q) 0 = N)
    (hP : bigSep ((plan m ρ).duties ((c : Thread nD τ), .dma q) 0 \ ∅) (fun d => (plan m ρ).payload ((c : Thread nD τ), .dma q) 0 d) = P)
    {s s' : Memref sig .tc .vmem S256x256 .bf16} (hN : s'.view.dmaCredit = N) {hs : s.view.WordExact} {hs' : s'.view.WordExact} :
    iprop(cellInv EG (plan m ρ) κ ((c : Thread nD τ), .dma q) ∗ owing c 0 ∗ cred (tallyAt ((c : Thread nD τ), .dma q) () N)
        ∗ atPos EG ((c : Thread nD τ), .dma q) 0 ∅ 0)
      ⊢ iprop(((owing c 0 ∗ P ∗ semVal ((c : Thread nD τ), .dma q) 0) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q s s' hs hs') kt) Q) := by
  unfold owing
  iintro ⟨#HI, ⟨%W, HO⟩, Hc, Ha⟩ Hk
  iapply (Rounds.wp_wait_rest_token 𝒱₀ EG (plan m ρ) (c : Thread nD τ) none (κ := κ)
      (wpE_waitDma2_eq 𝒱₀ (c : Thread nD τ) none Set.univ) (Set.mem_univ _) () (O := 0) (W := W) (R := 0) (m := 0) (T := ∅)
      (by rw [Nat.zero_add, hx, hN])) $$ [HO Hc Ha]
  · isplitr; · iexact HI
    isplitl [Hc]; · rw [hN]; iexact Hc
    isplitl [HO]; · iexact HO
    isplitr; · rw [MayWait_zero]; iempintro
    iexact Ha
  iintro ⟨HO, Ha, -, Hp⟩
  ihave Hp := (Entails.of_eq hP) $$ Hp
  imod (Rounds.cell_close EG (plan m ρ) (Set.mem_univ κ) (fun h => h) (R := 0 + 1) (duties_later m ρ ((c : Thread nD τ), .dma q))) $$ [Ha] with Hz
  · isplitr; · iexact HI
    iexact Ha
  iapply Hk
  isplitl [HO]; · iexists _; iexact HO
  isplitl [Hp]; · iexact Hp
  iexact Hz

/-- Lane `k`'s wait for the copy into this device: the sender's rows come gathered. -/
theorem step_recv {α : Type} {Q : α → sProp 𝕄} {kt : PUnit → Prog (TpuEff nD τ sig (Elt F) Λ₀ .tc) α}
    {s s' : Memref sig .tc .vmem S256x256 .bf16} (hN : s'.view.dmaCredit = N) {hs : s.view.WordExact} {hs' : s'.view.WordExact} :
    iprop(laneInv m ρ K k c ∗ owing c 0 ∗ cred (tallyAt (recvCell k c) () N) ∗ atPos EG (recvCell k c) 0 ∅ 0)
      ⊢ iprop(((owing c 0 ∗ recvPay m ρ k c ∗ semVal (recvCell k c) 0) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (recvS k) s s' hs hs') kt) Q) := by
  unfold laneInv
  iintro ⟨⟨-, #HI, -, -, -, -, -⟩, HO, Hc, Ha⟩
  iapply (step_wait m ρ c (recvS k) (K (c, .inr (.inr k))) (recvPay m ρ k c) (expect_recv m ρ k c) (rest_recv m ρ k c) hN)
  isplitr; · iexact HI
  isplitl [HO]; · iexact HO
  isplitl [Hc] <;> iassumption

/-- Lane `k`'s wait for its own copy out: its third of this device's rows comes back. -/
theorem step_sent {α : Type} {Q : α → sProp 𝕄} {kt : PUnit → Prog (TpuEff nD τ sig (Elt F) Λ₀ .tc) α}
    {s s' : Memref sig .tc .vmem S256x256 .bf16} (hN : s'.view.dmaCredit = N) {hs : s.view.WordExact} {hs' : s'.view.WordExact} :
    iprop(laneInv m ρ K k c ∗ owing c 0 ∗ cred (tallyAt (sendCell k c) () N) ∗ atPos EG (sendCell k c) 0 ∅ 0)
      ⊢ iprop(((owing c 0 ∗ sendPay m ρ k c ∗ semVal (sendCell k c) 0) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (sendS k) s s' hs hs') kt) Q) := by
  unfold laneInv
  iintro ⟨⟨#HI, -, -, -, -, -, -⟩, HO, Hc, Ha⟩
  iapply (step_wait m ρ c (sendS k) (K (c, .inr (.inl k))) (sendPay m ρ k c) (expect_send m ρ k c) (rest_send m ρ k c) hN)
  isplitr; · iexact HI
  isplitl [HO]; · iexact HO
  isplitl [Hc] <;> iassumption

/-- BARRIER WAIT, by a device that owes its copies: each peer's unit is in, and this device's rows of its buffer. -/
theorem step_barrier {α : Type} {Q : α → sProp 𝕄} {kt : PUnit → Prog (TpuEff nD τ sig (Elt F) Λ₀ .tc) α}
    (a : ℕ) (ha : a = 3) :
    iprop(cellInv EG (plan m ρ) (K (c, .inl ())) (barCell c) ∗ levAts L lv ∗ owing c (copies c 3) ∗ cred (tallyAt (barCell c) () 3) ∗ atPos EG (barCell c) 0 ∅ 0)
      ⊢ iprop(((owing c (copies c 3) ∗ (barPay 0 c ∗ barPay 1 c ∗ barPay 2 c) ∗ semVal (barCell c) 0)
            -∗ wp frame (wpE (defs₀ (F := F)) 𝒱₀ (c : Thread nD τ) none) Set.univ (kt ⟨⟩) Q)
          -∗ wp frame (wpE (defs₀ (F := F)) 𝒱₀ (c : Thread nD τ) none) Set.univ (.op (.semWait barS a) kt) Q) := by
  subst ha
  unfold owing
  iintro ⟨#HI, #Hlev, ⟨%W, HO⟩, Hc, Ha⟩ Hk
  iapply (Rounds.wp_wait_rest_token 𝒱₀ EG (plan m ρ) (c : Thread nD τ) none (κ := K (c, .inl ()))
      (wpE_semWait_eq 𝒱₀ (c : Thread nD τ) none Set.univ) (Set.mem_univ _) () (O := copies c 3) (W := W) (R := 0) (m := 0) (T := ∅)
      (by rw [Nat.zero_add, expect_bar])) $$ [HO Hc Ha]
  · isplitr; · iexact HI
    isplitl [Hc]; · iexact Hc
    isplitl [HO]; · iexact HO
    isplitr; · iapply (mayWait_bar c); iexact Hlev
    iexact Ha
  iintro ⟨HO, Ha, -, Hp⟩
  ihave Hp := (Entails.of_eq (rest_bar m ρ c)) $$ Hp
  imod (Rounds.cell_close EG (plan m ρ) (Set.mem_univ (K (c, .inl ()))) (fun h => h) (R := 0 + 1) (duties_later m ρ (barCell c))) $$ [Ha] with Hz
  · isplitr; · iexact HI
    iexact Ha
  iapply Hk
  isplitl [HO]; · iexists _; iexact HO
  isplitl [Hp]; · iexact Hp
  iexact Hz

/-- LOAD of the device's own rows, whose value nothing reads. -/
theorem step_peek {α : Type} {Q : α → sProp 𝕄} {kv : Vec F S256x256 .bf16 → Prog (TpuEff nD τ sig (Elt F) Λ₀ .tc) α}
    {hx : oM.view.LoadsAt (rowsR c).toLoadRect} (f : (cc0_stg1_0 : Ref sig .tc).ty.Contents (Elt F)) :
    hold c fullShare (blockOf c) f
      ⊢ iprop((hold c fullShare (blockOf c) f
            -∗ wp frame (wpE (defs₀ (F := F)) 𝒱₀ (c : Thread nD τ) none) Set.univ (kv (oM.view.readAt (Elt F) (rowsR c).toLoadRect f)) Q)
          -∗ wp frame (wpE (defs₀ (F := F)) 𝒱₀ (c : Thread nD τ) none) Set.univ (.op (.load oM (rowsR c).toLoadRect hx) kv) Q) :=
  wp_load_rect 𝒱₀ (c : Thread nD τ) none Set.univ (m := oM) (r := rowsR c) (S := blockOf c) (by rw [rowsR_set])

/-- STORE: the device's operand goes into its own rows, which then hold the gathered array. -/
theorem step_store {α : Type} {Q : α → sProp 𝕄} {kt : PUnit → Prog (TpuEff nD τ sig (Elt F) Λ₀ .tc) α}
    {hx : (oM.access (rowsR c)).Stores Finset.univ} {hm : (Finset.univ : Finset (rowsR c).shape.Idx) = Finset.univ ∨ ∀ a, (rowsR c).stride a = 1}
    (f : (cc0_stg1_0 : Ref sig .tc).ty.Contents (Elt F)) :
    hold c fullShare (blockOf c) f
      ⊢ iprop((hold c fullShare (blockOf c) (gathered m ρ c) -∗ wp frame (wpE (defs₀ (F := F)) 𝒱₀ (c : Thread nD τ) none) Set.univ (kt ⟨⟩) Q)
          -∗ wp frame (wpE (defs₀ (F := F)) 𝒱₀ (c : Thread nD τ) none) Set.univ
              (.op (.store oM (rowsR c) (k0_pay1 (xstg m ρ c)) Finset.univ hx hm) kt) Q) := by
  rw [← hold_congr c fullShare (blockOf c) (stored_eq m ρ c f)]
  exact wp_store 𝒱₀ (c : Thread nD τ) none Set.univ (m := oM) (r := rowsR c) (Mk := Finset.univ) (S := blockOf c)
    (by rw [View.setOn_univ, rowsR_set])

end Steps

end Cert.Gather

end
-- ==== Proof.Body.lean ====
/-
The body of the kernel on any device, from what the launch gives it to what it leaves.
-/
module

public import proofs.«01_k».proof.Proof.Steps
public import proofs.«01_k».proof.Proof.Gen.KernelIdeal.Points

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Proof data of the region -/

/-- What the region's windows hold and what its body owes: the operand block is left as fetched, the result block
    becomes the gathered array, and the one point pays every debt. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => gathered m ρ c
  Φ t := if t = 0 then start m ρ c else done c
  q _ := fullShare
  owed t := if t = 0 then O₀ c else 0

theorem bigSep_windows (Φ : Fin cfg0.W → sProp 𝕄) : bigSep Finset.univ Φ = iprop(Φ (0 : Fin 2) ∗ Φ (1 : Fin 2)) := bigSep_W0 Φ

/-- Device `c`'s staging buffer `b` at contents `X`. -/
abbrev staged (c : Dev nD) (b : Ref sig .tc) (X : b.ty.Contents (Elt F)) : sProp 𝕄 :=
  ((c : Thread nD τ).loc b) ↦{fullShare} X

omit [FloatOps F] in
/-- A whole buffer owned at what a view of all of it reads is the buffer at those contents. -/
theorem owns_staged (c : Dev nD) (b : Ref sig .tc) (X : b.ty.Contents (Elt F)) :
    (owns (Ix := Unit) (Name := ℕ) (U := UU) (Lvl := ℕ) (c : Thread nD τ) (Memref.whole b) fullShare X : sProp 𝕄) ⊣⊢ staged c b X := by
  unfold owns
  simp only [Memref.view_whole, View.read_whole, View.set_whole]
  constructor
  · iintro ⟨%f, %h, H⟩; subst h; iexact H
  · iintro H; iexists X
    isplitr; · ipureintro; rfl
    iexact H

omit [FloatOps F] in
/-- What a barrier unit brings, by the lane it lets the device copy on: its rows of that lane's destination. -/
theorem barPay_rev (k j : Fin 3) (h : k.rev = j) (c : Dev nD) :
    (barPay j c : sProp 𝕄) = iprop(∃ f, hold (dst k c) fullShare (blockOf c) f) := by
  subst h; unfold barPay; rw [src_rev]
omit [FloatOps F] in
/-- What a copy in brings, by the device whose rows they are. -/
theorem recvPay_rev (k j : Fin 3) (h : k.rev = j) (c : Dev nD) :
    (recvPay m ρ j c : sProp 𝕄) = hold c fullShare (blockOf (dst k c)) (gathered m ρ c) := by
  subst h; unfold recvPay; rw [src_rev]

theorem start_zero : (![0, 0] : Fin 2 → ℕ) = fun _ => 0 := funext fun a => by fin_cases a <;> rfl

/-! ## The run of the body -/

/-- What the body starts from and what it leaves. -/
def before (K : Dev nD × Role → ℕ) (c : Dev nD) : sProp 𝕄 :=
  iprop((ghost m ρ K c ∗ owed c ∗ levAts L lv) ∗ owing c (O₀ c) ∗ staged c cc0_stg0_0 (xstg m ρ c) ∗ ∃ f, staged c cc0_stg1_0 f)
def after (c : Dev nD) : sProp 𝕄 :=
  iprop(done c ∗ owing c 0 ∗ staged c cc0_stg0_0 (xstg m ρ c) ∗ staged c cc0_stg1_0 (gathered m ρ c))

set_option maxHeartbeats 1600000 in
/-- The body on any device: three signals, the barrier wait, the store of its own rows, three copies, and the six waits for
    them, after which the result staging buffer is whole again and holds the gathered array. -/
theorem run_body (K : Dev nD × Role → ℕ) (c : Dev nD) (Q : PUnit → sProp 𝕄) :
    iprop(before m ρ K c ∗ (after m ρ c -∗ Q ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _) cc0_scratch0 cc0_scratch1) Q := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId]
  unfold before ghost owed
  rw [bigSep_lanes, bigSep_lanes]
  unfold laneHeld
  iintro ⟨⟨⟨⟨#HB, HaB, ⟨#I0, ⟨Has0, Har0⟩, Htb0, Hts0, Htr0⟩, ⟨#I1, ⟨Has1, Har1⟩, Htb1, Hts1, Htr1⟩, ⟨#I2, ⟨Has2, Har2⟩, Htb2, Hts2, Htr2⟩⟩,
    ⟨HcB, Hc0, Hc1, Hc2⟩, #Hlev⟩, HO, Hx, ⟨%f, Hout⟩⟩, Hk⟩
  ihave Hparts := (Entails.of_eq (hold_parts c f)) $$ Hout
  icases Hparts with ⟨Hown, H0, H1, H2⟩
  unfold O₀
  -- the three signals, each with the peer's rows of this device's buffer
  iapply (step_signal m ρ K 0 c _ (dev1_eq c) _ rfl (copies c 3 + unitDue 2 c + unitDue 1 c) f) $$ [HO Htb0 H0]
  · isplitr; · iexact I0
    isplitl [HO]; · iexact HO
    isplitl [Htb0] <;> iassumption
  iintro HO
  iapply (step_signal m ρ K 1 c _ (dev2_eq c) _ rfl (copies c 3 + unitDue 2 c) f) $$ [HO Htb1 H1]
  · isplitr; · iexact I1
    isplitl [HO]; · iexact HO
    isplitl [Htb1] <;> iassumption
  iintro HO
  iapply (step_signal m ρ K 2 c _ (dev3_eq c) _ rfl (copies c 3) f) $$ [HO Htb2 H2]
  · isplitr; · iexact I2
    isplitl [HO]; · iexact HO
    isplitl [Htb2] <;> iassumption
  iintro HO
  -- the barrier wait: this device's rows of each peer's buffer
  iapply (step_barrier m ρ K c _ rfl) $$ [HO HcB HaB]
  · isplitr; · iexact HB
    isplitr; · iexact Hlev
    isplitl [HO]; · iexact HO
    isplitl [HcB] <;> iassumption
  iintro ⟨HO, ⟨P2, P1, P0⟩, HzB⟩
  ihave P0 := (Entails.of_eq (barPay_rev 0 2 rfl c)) $$ P0
  ihave P1 := (Entails.of_eq (barPay_rev 1 1 rfl c)) $$ P1
  ihave P2 := (Entails.of_eq (barPay_rev 2 0 rfl c)) $$ P2
  icases P0 with ⟨%f0, P0⟩
  icases P1 with ⟨%f1, P1⟩
  icases P2 with ⟨%f2, P2⟩
  -- the operand loaded, the rows loaded and written over
  iapply (wp_load 𝒱₀ (c : Thread nD τ) none Set.univ (m := xM) (Finset.subset_univ _)) $$ Hx; iintro Hx
  rw [show ∀ g, (xM : Memref sig .tc .vmem S256x256 .bf16).view.readAt (Elt F) (Rect.unit (s := S256x256) ![0, 0] S256x256.size inb_S256x256_S256x256_0_0).toLoadRect g = g from
    fun g => Memref.readAt_unit_zero (Elt F) cc0_stg0_0 start_zero _ g]
  iapply (step_peek c f) $$ Hown; iintro Hown
  iapply (step_store m ρ c f) $$ Hown; iintro Hown
  ihave Hthirds := (hold_thirds c (blockOf c) (gathered m ρ c)).1 $$ Hown
  icases Hthirds with ⟨T0, T1, T2⟩
  -- the three copies
  iapply (step_copy m ρ K 0 c _ (dev4_eq c) (copies c 2) f0) $$ [HO Hts0 Htr0 T0 P0]
  · isplitr; · iexact I0
    isplitl [HO]; · iexact HO
    isplitl [Hts0]; · iexact Hts0
    isplitl [Htr0]; · iexact Htr0
    isplitl [T0] <;> iassumption
  iintro ⟨Hcs0, HO⟩
  iapply (step_copy m ρ K 1 c _ (dev5_eq c) (copies c 1) f1) $$ [HO Hts1 Htr1 T1 P1]
  · isplitr; · iexact I1
    isplitl [HO]; · iexact HO
    isplitl [Hts1]; · iexact Hts1
    isplitl [Htr1]; · iexact Htr1
    isplitl [T1] <;> iassumption
  iintro ⟨Hcs1, HO⟩
  iapply (step_copy m ρ K 2 c _ (dev6_eq c) 0 f2) $$ [HO Hts2 Htr2 T2 P2]
  · isplitr; · iexact I2
    isplitl [HO]; · iexact HO
    isplitl [Hts2]; · iexact Hts2
    isplitl [Htr2]; · iexact Htr2
    isplitl [T2] <;> iassumption
  iintro ⟨Hcs2, HO⟩
  -- the waits for the copies in
  iapply (step_recv m ρ K 0 c (credit_eq _ _)) $$ [HO Hc0 Har0]
  · isplitr; · iexact I0
    isplitl [HO]; · iexact HO
    isplitl [Hc0] <;> iassumption
  iintro ⟨HO, R0, Zr0⟩
  iapply (step_recv m ρ K 1 c (credit_eq _ _)) $$ [HO Hc1 Har1]
  · isplitr; · iexact I1
    isplitl [HO]; · iexact HO
    isplitl [Hc1] <;> iassumption
  iintro ⟨HO, R1, Zr1⟩
  iapply (step_recv m ρ K 2 c (credit_eq _ _)) $$ [HO Hc2 Har2]
  · isplitr; · iexact I2
    isplitl [HO]; · iexact HO
    isplitl [Hc2] <;> iassumption
  iintro ⟨HO, R2, Zr2⟩
  -- the waits for the copies out
  iapply (step_sent m ρ K 0 c (credit_eq _ _)) $$ [HO Hcs0 Has0]
  · isplitr; · iexact I0
    isplitl [HO]; · iexact HO
    isplitl [Hcs0] <;> iassumption
  iintro ⟨HO, T0, Zs0⟩
  iapply (step_sent m ρ K 1 c (credit_eq _ _)) $$ [HO Hcs1 Has1]
  · isplitr; · iexact I1
    isplitl [HO]; · iexact HO
    isplitl [Hcs1] <;> iassumption
  iintro ⟨HO, T1, Zs1⟩
  iapply (step_sent m ρ K 2 c (credit_eq _ _)) $$ [HO Hcs2 Has2]
  · isplitr; · iexact I2
    isplitl [HO]; · iexact HO
    isplitl [Hcs2] <;> iassumption
  iintro ⟨HO, T2, Zs2⟩
  ihave R0 := (Entails.of_eq (recvPay_rev m ρ 2 0 rfl c)) $$ R0
  ihave R1 := (Entails.of_eq (recvPay_rev m ρ 1 1 rfl c)) $$ R1
  ihave R2 := (Entails.of_eq (recvPay_rev m ρ 0 2 rfl c)) $$ R2
  unfold sendPay
  ihave Hown := (hold_thirds c (blockOf c) (gathered m ρ c)).2 $$ [T0 T1 T2]
  · isplitl [T0]; · iexact T0
    isplitl [T1] <;> iassumption
  ihave Hout := (Entails.of_eq (hold_parts c (gathered m ρ c)).symm) $$ [Hown R0 R1 R2]
  · isplitl [Hown]; · iexact Hown
    isplitl [R2]; · iexact R2
    isplitl [R1] <;> iassumption
  rw [wp_ret]; imodintro
  iapply Hk
  unfold after done
  rw [bigSep_lanes, bigSep_lanes]
  isplitl [HzB Zs0 Zs1 Zs2 Zr0 Zr1 Zr2]
  · isplitl [HzB]; · iexact HzB
    isplitl [Zs0 Zs1 Zs2]
    · isplitl [Zs0]; · iexact Zs0
      isplitl [Zs1] <;> iassumption
    isplitl [Zr0]; · iexact Zr0
    isplitl [Zr1] <;> iassumption
  isplitl [HO]; · iexact HO
  isplitl [Hx] <;> iassumption

/-- The region's body obligation on device `c`. -/
theorem body_obligation (c : Dev nD) : BodyObligation (dats (F := F) m ρ 0 c) (defs₀ (F := F)) 𝒱₀ () Set.univ := fun t => by
  rw [fin_N0 t, bigSep_windows, bigSep_windows]
  show iprop(start m ρ c ∗ (dats m ρ 0 c).owesAt () t0_0.castSucc
      ∗ (∃ d, owns (c : Thread nD τ) (Memref.whole cc0_stg0_0) fullShare ((dats m ρ 0 c).before (0 : Fin 2) t0_0 d))
      ∗ (∃ d, owns (c : Thread nD τ) (Memref.whole cc0_stg1_0) fullShare ((dats m ρ 0 c).before (1 : Fin 2) t0_0 d)))
    ⊢ wp frame (wpE (defs₀ (F := F)) 𝒱₀ (c : Thread nD τ) none) Set.univ
      (cc0_body (Memref.whole cc0_stg0_0) (Memref.isWhole_whole _) (Memref.whole cc0_stg1_0) (Memref.isWhole_whole _) cc0_scratch0 cc0_scratch1)
      (fun _ => iprop(done c ∗ (dats m ρ 0 c).owesAt () t0_0.succ
        ∗ owns (c : Thread nD τ) (Memref.whole cc0_stg0_0) fullShare (xstg m ρ c)
        ∗ owns (c : Thread nD τ) (Memref.whole cc0_stg1_0) fullShare (gathered m ρ c)))
  unfold start Dat.owesAt Pipeline.owesWithin
  iintro ⟨⟨⟨%K, Hg⟩, Hw, #Hlev⟩, ⟨%W, -, HO⟩, ⟨%d0, Hx⟩, ⟨%d1, Hout⟩⟩
  ihave Hx := (owns_staged c cc0_stg0_0 _).1 $$ Hx
  ihave Hout := (owns_staged c cc0_stg1_0 _).1 $$ Hout
  have hx : (dats m ρ 0 c).before (0 : Fin 2) t0_0 d0 = xstg m ρ c := by unfold Dat.before; rw [if_pos (fetch0_0 t0_0)]; rfl
  rw [hx]
  iapply (run_body m ρ K c)
  isplitl
  · unfold before owing
    isplitl [Hg Hw]
    · isplitl [Hg]; · iexact Hg
      isplitl [Hw]; · iexact Hw
      iexact Hlev
    isplitl [HO]; · iexists W; iexact HO
    isplitl [Hx]; · iexact Hx
    iexists _; iexact Hout
  unfold after owing
  iintro ⟨Hd, ⟨%W', HO⟩, Hx, Hout⟩
  ihave Hx := (owns_staged c cc0_stg0_0 _).2 $$ Hx
  ihave Hout := (owns_staged c cc0_stg1_0 _).2 $$ Hout
  isplitl [Hd]; · iexact Hd
  isplitl [HO]
  · iexists W'
    isplitr; · ipureintro; exact fun _ _ => Or.inl trivial
    iexact HO
  isplitl [Hx] <;> iassumption

end Cert.Gather

end
-- ==== Proof.Launch.lean ====
/-
The launch: the ghost state of every device, the credit it is owed, and the run of the whole program.
-/
module

public import proofs.«01_k».proof.Proof.Body
public import Idealize.ShloMosaic.Lib.Pipeline.Quiescent

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Ghost state at launch -/

/-- A device's duties, by who is to do them: lane `k`'s barrier unit, the copy read on a send cell, the copy written on a
    receive cell. -/
abbrev Due : Type := Fin 3 ⊕ Own
/-- The cell of a duty, and its name there. -/
abbrev dueAt : Due → Role × Fin 3 := fun | .inl k => (.inl (), k) | .inr o => (.inr o, 0)
abbrev tokAt (cj : Dev nD × Due) : GSem nD τ sig × ℕ × Fin 3 := (kcell (cj.1, (dueAt cj.2).1), 0, (dueAt cj.2).2)

theorem dueAt_injective : Function.Injective dueAt := by decide
theorem tokAt_injective : Function.Injective tokAt := by
  rintro ⟨c, j⟩ ⟨c', j'⟩ h
  have hg := Prod.mk.inj (kcell_injective (congrArg Prod.fst h))
  have hd : (dueAt j).2 = (dueAt j').2 := congrArg (fun x : GSem nD τ sig × ℕ × Fin 3 => x.2.2) h
  exact Prod.ext hg.1 (dueAt_injective (Prod.ext hg.2 hd))

def allCells : Finset (GSem nD τ sig) := Finset.univ.map ⟨kcell, kcell_injective⟩
def allToks : Finset (GSem nD τ sig × ℕ × Fin 3) := Finset.univ.map ⟨tokAt, tokAt_injective⟩

/-- The launch element: the staging pipeline's, and that of the seven cells of every device. -/
def u₀ : UU := (initOf (Pipeline.cells cfgs cellOf_inj) (Pipeline.launchToks cfgs cellOf_inj), initOf allCells allToks)

/-- What the launch element gives device `c`. -/
def dealt (c : Dev nD) : sProp 𝕄 :=
  iprop((bigSep Finset.univ fun r : Role => roundState EG (plan m ρ) (kcell (c, r)) 0)
    ∗ (bigSep Finset.univ fun r : Role => reached EG (kcell (c, r)) 0)
    ∗ (bigSep Finset.univ fun r : Role => atPos EG (kcell (c, r)) 0 ∅ 0)
    ∗ bigSep Finset.univ fun j : Due => dutyTok EG (tokAt (c, j)).1 (tokAt (c, j)).2.1 (tokAt (c, j)).2.2)

omit [FloatOps F] in
theorem over_cells (Φ : GSem nD τ sig → sProp 𝕄) :
    bigSep allCells Φ = bigSep Finset.univ fun c : Dev nD => bigSep Finset.univ fun r : Role => Φ (kcell (c, r)) := by
  unfold allCells; rw [bigSep_map, bigSep_univ_prod]; rfl
omit [FloatOps F] in
theorem over_toks (Φ : GSem nD τ sig × ℕ × Fin 3 → sProp 𝕄) :
    bigSep allToks Φ = bigSep Finset.univ fun c : Dev nD => bigSep Finset.univ fun j : Due => Φ (tokAt (c, j)) := by
  unfold allToks; rw [bigSep_map, bigSep_univ_prod]; rfl

omit [FloatOps F] in
theorem fund_all : BI.own (EG (initOf allCells allToks)) ⊢ (|==> bigSep Finset.univ (dealt m ρ) : sProp 𝕄) := by
  iintro H
  imod (Rounds.fund EG (plan m ρ) allCells allToks) $$ H with H
  imodintro
  rw [over_cells, over_cells, over_cells, over_toks]
  unfold dealt
  rw [bigSep_sep', bigSep_sep', bigSep_sep']
  iexact H

/-! ## Cells opened, duties dealt to those who do them -/

omit [FloatOps F] in
/-- Over a device's seven cells: the barrier's, the three to send on, the three to receive on. -/
theorem over_roles (Φ : Role → sProp 𝕄) :
    bigSep Finset.univ Φ = iprop(Φ (.inl ()) ∗ (bigSep Finset.univ fun k : Fin 3 => Φ (.inr (.inl k))) ∗ bigSep Finset.univ fun k : Fin 3 => Φ (.inr (.inr k))) := by
  rw [bigSep_univ_sum, bigSep_univ_sum, show (Finset.univ : Finset Unit) = {()} from rfl, bigSep_singleton]; rfl

omit [FloatOps F] in
/-- A device's seven semaphores at zero: its own six, and the runtime's one. -/
theorem sems_eq (c : Dev nD) :
    iprop(unscopedSems0 c ∗ Pipeline.ownSems0 (Ix := Unit) (Name := ℕ) (U := UU) (Lvl := ℕ) (Val := Elt F) (τ := τ) osem c)
      = (bigSep Finset.univ fun r : Role => semVal (kcell (c, r)) 0 : sProp 𝕄) := by
  have hb : (unscopedSems0 c : sProp 𝕄) = semVal (barCell c) 0 := by
    unfold unscopedSems0; rw [bigSep_eq_bigSepL_of_eq [SemLoc.reg barS] (by decide) (by decide)]; rfl
  unfold Pipeline.ownSems0
  rw [over_roles, hb, bigSep_univ_sum]; rfl

omit [FloatOps F] in
theorem done_eq (c : Dev nD) : (done c : sProp 𝕄) = bigSep Finset.univ fun r : Role => semVal (kcell (c, r)) 0 := by
  unfold done; rw [over_roles]

/-- What every device may know: all cells' invariants, and that all are in round 0. -/
def known (K : Dev nD × Role → ℕ) : sProp 𝕄 :=
  iprop((bigSep Finset.univ fun cr : Dev nD × Role => cellInv EG (plan m ρ) (K cr) (kcell cr))
    ∗ bigSep Finset.univ fun cr : Dev nD × Role => reached EG (kcell cr) 0)

instance known_persistent (K : Dev nD × Role → ℕ) : BI.Persistent (known m ρ K) := by unfold known; infer_instance

omit [FloatOps F] in
theorem known_inv (K : Dev nD × Role → ℕ) (cr : Dev nD × Role) : known m ρ K ⊢ cellInv EG (plan m ρ) (K cr) (kcell cr) := by
  unfold known; exact (sep_mono_left (bigSep_elim (Finset.mem_univ cr))).trans sep_elim_left
omit [FloatOps F] in
theorem known_reached (K : Dev nD × Role → ℕ) (cr : Dev nD × Role) : known m ρ K ⊢ reached EG (kcell cr) 0 := by
  unfold known; exact (sep_mono_right (bigSep_elim (Finset.mem_univ cr))).trans sep_elim_right

omit [FloatOps F] in
theorem known_lane (K : Dev nD × Role → ℕ) (k : Fin 3) (c : Dev nD) : known m ρ K ⊢ laneInv m ρ K k c := by
  unfold laneInv
  iintro #H
  isplitr; · iapply (known_inv m ρ K (c, .inr (.inl k))); iexact H
  isplitr; · iapply (known_inv m ρ K (c, .inr (.inr k))); iexact H
  isplitr; · iapply (known_inv m ρ K (dst k c, .inl ())); iexact H
  isplitr; · iapply (known_inv m ρ K (dst k c, .inr (.inr k))); iexact H
  isplitr; · iapply (known_reached m ρ K (c, .inr (.inl k))); iexact H
  isplitr; · iapply (known_reached m ρ K (dst k c, .inl ())); iexact H
  iapply (known_reached m ρ K (dst k c, .inr (.inr k))); iexact H

omit [FloatOps F] in
theorem known_lanes (K : Dev nD × Role → ℕ) (c : Dev nD) : known m ρ K ⊢ bigSep Finset.univ fun k : Fin 3 => laneInv m ρ K k c :=
  (BI.bigSep_of_persistent Finset.univ (known m ρ K)).trans (bigSep_mono fun k _ => known_lane m ρ K k c)

/-- A device's places at its cells, and the duties that it does itself. -/
def mine (c : Dev nD) : sProp 𝕄 :=
  iprop((bigSep Finset.univ fun r : Role => atPos EG (kcell (c, r)) 0 ∅ 0)
    ∗ (bigSep Finset.univ fun k : Fin 3 => dutyTok EG (barCell (dst k c)) 0 k)
    ∗ (bigSep Finset.univ fun k : Fin 3 => dutyTok EG (sendCell k c) 0 0)
    ∗ bigSep Finset.univ fun k : Fin 3 => dutyTok EG (recvCell k (dst k c)) 0 0)

omit [FloatOps F] in
theorem ghost_intro (K : Dev nD × Role → ℕ) (c : Dev nD) : iprop(known m ρ K ∗ mine c) ⊢ iprop(∃ K, ghost m ρ K c) := by
  unfold mine
  rw [over_roles]
  iintro ⟨#HK, ⟨Ha, Has, Har⟩, Htb, Hts, Htr⟩
  iexists K
  unfold ghost laneHeld
  simp only [bigSep_sep']
  isplitr; · iapply (known_inv m ρ K (c, .inl ())); iexact HK
  isplitl [Ha]; · iexact Ha
  isplitr; · iapply (known_lanes m ρ K c); iexact HK
  isplitl [Has Har]
  · isplitl [Has] <;> iassumption
  isplitl [Htb]; · iexact Htb
  isplitl [Hts] <;> iassumption

/-- From the sender and the lane to the receiver and the lane. -/
def hop : Dev nD × Fin 3 ≃ Dev nD × Fin 3 :=
  ⟨fun ck => (dst ck.2 ck.1, ck.2), fun ck => (src ck.2 ck.1, ck.2), fun _ => Prod.ext (src_dst _ _) rfl, fun _ => Prod.ext (dst_src _ _) rfl⟩

omit [FloatOps F] in
/-- What is given by lane to every receiving device is given by lane to every sending device. -/
theorem around (Φ : Fin 3 → Dev nD → sProp 𝕄) :
    (bigSep Finset.univ fun c => bigSep Finset.univ fun k => Φ k c) = bigSep Finset.univ fun c => bigSep Finset.univ fun k => Φ k (dst k c) := by
  rw [← bigSep_univ_prod fun ck : Dev nD × Fin 3 => Φ ck.2 ck.1, bigSep_univ_equiv hop, bigSep_univ_prod]; rfl

omit [FloatOps F] in
theorem deal_mine :
    iprop((bigSep Finset.univ fun c : Dev nD => bigSep Finset.univ fun r : Role => atPos EG (kcell (c, r)) 0 ∅ 0)
        ∗ bigSep Finset.univ fun c : Dev nD => bigSep Finset.univ fun j : Due => dutyTok EG (tokAt (c, j)).1 (tokAt (c, j)).2.1 (tokAt (c, j)).2.2)
      = (bigSep Finset.univ fun c : Dev nD => mine c : sProp 𝕄) := by
  have h : (bigSep Finset.univ fun c : Dev nD => bigSep Finset.univ fun j : Due => (dutyTok EG (tokAt (c, j)).1 (tokAt (c, j)).2.1 (tokAt (c, j)).2.2 : sProp 𝕄))
      = bigSep Finset.univ fun c : Dev nD => iprop((bigSep Finset.univ fun k : Fin 3 => dutyTok EG (barCell c) 0 k)
        ∗ (bigSep Finset.univ fun k : Fin 3 => dutyTok EG (sendCell k c) 0 0) ∗ bigSep Finset.univ fun k : Fin 3 => dutyTok EG (recvCell k c) 0 0) :=
    bigSep_congr fun c _ => by rw [bigSep_univ_sum, bigSep_univ_sum]; rfl
  unfold mine
  rw [h, bigSep_sep', bigSep_sep', bigSep_sep', bigSep_sep', bigSep_sep', around fun k c => dutyTok EG (barCell c) 0 k,
    around fun k c => dutyTok EG (recvCell k c) 0 0]

omit [FloatOps F] in
/-- Every device's cells are opened at once, and each device has what its body starts from. -/
theorem open_all :
    (bigSep Finset.univ fun c => iprop(Pipeline.ownSems0 (Ix := Unit) (Name := ℕ) (U := UU) (Lvl := ℕ) (Val := Elt F) (τ := τ) osem c ∗ unscopedSems0 c ∗ dealt m ρ c) : sProp 𝕄)
      ⊢ |={Set.univ}=> bigSep Finset.univ fun c => iprop(∃ K, ghost m ρ K c) := by
  have hcells (Φ : Dev nD × Role → sProp 𝕄) := bigSep_univ_prod Φ
  unfold dealt
  simp only [bigSep_sep']
  iintro ⟨Ho, Hu, Hst, Hr, Hat, Htok⟩
  ihave Hv := (show iprop((bigSep Finset.univ fun c => unscopedSems0 c)
        ∗ bigSep Finset.univ fun c => Pipeline.ownSems0 (Ix := Unit) (Name := ℕ) (U := UU) (Lvl := ℕ) (Val := Elt F) (τ := τ) osem c)
      ⊢ (bigSep Finset.univ fun cr : Dev nD × Role => semVal (kcell cr) 0 : sProp 𝕄) from
        Entails.of_eq (by rw [← bigSep_sep', hcells]; exact bigSep_congr fun c _ => sems_eq c)) $$ [Ho Hu]
  · isplitl [Hu] <;> iassumption
  ihave Hst := (Entails.of_eq (hcells fun cr => roundState EG (plan m ρ) (kcell cr) 0).symm) $$ Hst
  ihave #Hr := (Entails.of_eq (hcells fun cr => reached EG (kcell cr) 0).symm) $$ Hr
  imod (show iprop((bigSep Finset.univ fun cr : Dev nD × Role => semVal (kcell cr) 0) ∗ bigSep Finset.univ fun cr => roundState EG (plan m ρ) (kcell cr) 0)
      ⊢ (|={Set.univ}=> bigSep Finset.univ fun cr => iprop(∃ κ : ℕ, cellInv EG (plan m ρ) κ (kcell cr)) : sProp 𝕄) from by
        rw [← bigSep_sep']
        exact (bigSep_mono fun cr _ => (Rounds.body_intro EG (plan m ρ) (kcell cr)).trans inv_alloc).trans (bigSep_fupd _ _)) $$ [Hv Hst] with HI
  · isplitl [Hv] <;> iassumption
  ihave HI := (BI.bigSep_exists_pi Finset.univ fun (cr : Dev nD × Role) (κ : ℕ) => cellInv EG (plan m ρ) κ (kcell cr)) $$ HI
  icases HI with ⟨%K, #HI⟩
  ihave Hmine := (Entails.of_eq (deal_mine (F := F))) $$ [Hat Htok]
  · isplitl [Hat] <;> iassumption
  imodintro
  iapply ((sep_mono_left (BI.bigSep_of_persistent Finset.univ (known m ρ K))).trans
    ((Entails.of_eq (bigSep_sep' Finset.univ (fun _ : Dev nD => known m ρ K) fun c => mine c).symm).trans (bigSep_mono fun c _ => ghost_intro m ρ K c)))
  isplitr
  · unfold known; isplitr; · iexact HI
    iexact Hr
  iexact Hmine

/-! ## The credit a device is owed -/

/-- What device `c`'s cell of each kind is owed by all devices together. -/
def dueTo : Role → ℕ | .inl _ => 3 | .inr (.inl _) => 0 | .inr (.inr _) => N

theorem copy_total (k : Fin 3) (cr : Dev nD × Role) : ∑ d, copyDue k d (kcell cr) () = if cr.2 = .inr (.inr k) then N else 0 := by
  rw [Finset.sum_congr rfl fun d _ => copyDue_apply k d cr]
  by_cases h : cr.2 = .inr (.inr k)
  · simp only [h, and_true, if_true]; rw [Finset.sum_ite_eq' Finset.univ, if_pos (Finset.mem_univ _)]
  · simp only [h, and_false, if_false, Finset.sum_const_zero]
theorem unit_total (k : Fin 3) (cr : Dev nD × Role) : ∑ d, unitDue k d (kcell cr) () = if cr.2 = .inl () then 1 else 0 := by
  rw [Finset.sum_congr rfl fun d _ => unitDue_apply k d cr]
  by_cases h : cr.2 = .inl ()
  · simp only [h, and_true, if_true]; rw [Finset.sum_ite_eq' Finset.univ, if_pos (Finset.mem_univ _)]
  · simp only [h, and_false, if_false, Finset.sum_const_zero]

theorem due_total (cr : Dev nD × Role) : ∑ d, O₀ d (kcell cr) () = dueTo cr.2 := by
  have h (d : Dev nD) : O₀ d (kcell cr) () = 0 + copyDue 2 d (kcell cr) () + copyDue 1 d (kcell cr) () + copyDue 0 d (kcell cr) ()
      + unitDue 2 d (kcell cr) () + unitDue 1 d (kcell cr) () + unitDue 0 d (kcell cr) () := rfl
  rw [Finset.sum_congr rfl fun d _ => h d]
  simp only [Finset.sum_add_distrib, copy_total, unit_total, Finset.sum_const_zero]
  obtain ⟨c, r⟩ := cr
  match r with
  | .inl () => rfl
  | .inr (.inl k) => fin_cases k <;> rfl
  | .inr (.inr k) => fin_cases k <;> simp [dueTo]

theorem launch_due (cr : Dev nD × Role) :
    tallyOn (kcell cr) (launchCredit (Pipeline.owing O₀) 0 (kcell cr)) = (tallyAt (kcell cr) () (dueTo cr.2) : CellTallies nD τ sig Unit) := by
  unfold tallyAt
  refine congrArg _ (Finsupp.ext fun u => ?_)
  cases u
  rw [Pipeline.launchCredit_owing, Finsupp.single_eq_same, due_total]

omit [FloatOps F] in
theorem owed_intro (c : Dev nD) : (Pipeline.launchCred O₀ c : sProp 𝕄) ⊢ owed c := by
  have h : (Pipeline.launchCred O₀ c : sProp 𝕄) ⊢ bigSep Finset.univ fun r : Role => cred (tallyAt (kcell (c, r)) () (dueTo r)) := by
    unfold Pipeline.launchCred
    refine (bigSep_subset (Finset.subset_univ (Finset.univ.map ⟨csem, csem_injective⟩))).trans ?_
    rw [bigSep_map]
    exact bigSep_mono fun r _ => Entails.of_eq (congrArg cred (launch_due (c, r)))
  refine h.trans ?_
  unfold owed
  rw [over_roles]
  iintro ⟨HB, -, HR⟩
  isplitl [HB]; · iexact HB
  iexact HR

/-! ## The run -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ∃ K, ghost m ρ K c)
      ⊢ |={Set.univ}=> iprop(start m ρ c ∗ emp) := by
  iintro ⟨-, Hlev, Hc, -, Hg⟩
  ihave Ho := (owed_intro (F := F) c) $$ Hc
  imodintro
  unfold start
  isplitl
  · isplitl [Hg]; · iexact Hg
    isplitl [Ho] <;> iassumption
  iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  exact sep_elim_left

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = done c from rfl, scopedRest0_eq, done_eq, ← sems_eq]
  iintro ⟨Hu, Ho⟩
  isplitl [Hu]; · iexact Hu
  isplitl [Ho]; · iexact Ho
  iempintro

theorem waits (c : Dev nD) : (levAts L lv : sProp 𝕄) ⊢ Pipeline.cellsWaits cfgs (dats m ρ) () 0 c :=
  Pipeline.cellsWaits_intro cfgs (dats m ρ) () 0 c fun w s t => by
    show (levAts L lv : sProp 𝕄) ⊢ MayWait (c : Thread nD τ) _ () (if t = 0 then O₀ c else 0)
    split
    · exact mayWait_stage c _ (by revert w s; decide)
    · rw [MayWait_zero]; iintro -; iempintro

theorem share_full (c : Dev nD) (w : Fin cfg0.W) : (dats m ρ 0 c).share w = fullShare := by unfold Dat.share; split <;> rfl

/-- Array `w` of device `c` after the run. -/
def final (c : Dev nD) (w : Fin cfg0.W) : Buf (Elt F) ((cfg0.win w).arr.view.loc (c : Thread nD τ)) := (dats m ρ 0 c).arrAt w cfg0.N

set_option maxRecDepth 8000 in
/-- From any memory with every counter at zero the program runs to its end on all devices, however they are scheduled; then
    every array is as `final` says and every counter is at zero again. -/
theorem run_main : θ_run defs (onTc (τ := τ) (main (F := F))) (s₀ m ρ) (fun r =>
    (∀ c : Dev nD, ∀ w : Fin cfg0.W, r.2.mem ((cfg0.win w).arr.view.loc (c : Thread nD τ)) = final m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ (show Pipeline.OwnSemFacts cfg0.spec osem by decide) (Pipeline.PreFacts.none _) EP defs₀ 𝒱₀ m ρ main
    (hmain := fun _ => rfl)
    (hbody := body_obligation m ρ) (hne := block_pos0) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := dealt m ρ) (G' := fun c => iprop(∃ K, ghost m ρ K c)) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := open_all m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      ihave %h := (tcUnscoped_read c s') $$ [Hu HSI]
      · isplitl [Hu] <;> iassumption
      imodintro
      isplitr; · ipureintro; exact h
      iexact HSI)
    (hQ := fun _ h hs => ⟨fun c w => (h c).1 w, sem_eq_zero hs fun c => (h c).2.2⟩)

end Cert.Gather

end
-- ==== Proof.Value.lean ====
/-
What the run leaves in the arrays: every device's argument as it was, and as every device's result the whole array of
which the arguments are the row blocks. Beside it, the run of the reference.
-/
module

public import proofs.«01_k».proof.Proof.Launch
public import proofs.«01_k».proof.Proof.Gen.ReferenceIdeal
public import Idealize.ShloMosaic.Lib.StableHlo.Run
public import Idealize.ShloMosaic.Lib.Layout

@[expose] public section

noncomputable section

namespace Cert.Gather

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- The operand block staged on a device is its argument. -/
theorem xstg_eq (c : Dev nD) : xstg m ρ c = m ((c : Thread nD τ).loc main_arg0) := by
  funext i
  unfold xstg
  rw [View.read_apply]
  refine congrArg (m ((c : Thread nD τ).loc main_arg0)) (funext fun a => Fin.ext ?_)
  show 0 * _ + 1 * (i a).val = _
  omega

/-- The argument ends as it began. -/
theorem final_arg (c : Dev nD) : final m ρ c (0 : Fin 2) = m ((c : Thread nD τ).loc main_arg0) :=
  (dats m ρ 0 c).arrAt_in (0 : Fin 2) rfl _

/-- The result ends as the gathered array: the one point writes back all of it. -/
theorem final_result (c : Dev nD) : final m ρ c (1 : Fin 2) = gathered m ρ c := by
  have hemb : ∀ i : S1024x256.Idx, (win0_1.blk (0 : Fin 1)).view.emb i = i := fun i =>
    funext fun a => Fin.ext (by show 0 * _ + 1 * (i a).val = _; omega)
  refine (dats m ρ 0 c).arrAt_eq_of_cover (1 : Fin 2) (gathered m ρ c) (fun t _ => ?_) fun i => ⟨t0_0, flush0_1 _, ?_⟩
  · obtain rfl : t = t0_0 := fin_N0 t
    funext i
    rw [View.read_apply]
    exact (congrArg (gathered m ρ c) (hemb i)).symm
  · exact (hemb i) ▸ View.emb_mem_set _ i

/-! ## The whole array from its row blocks -/

/-- Along the rows, device `c`'s block is its place in its group; the columns are not cut. -/
theorem block_row (c : Dev nD) : Layout.meshLin [2, 4, 4] c.val [2] = c.val % 4 := by revert c; decide
theorem block_col (c : Dev nD) : Layout.meshLin [2, 4, 4] c.val [] = 0 := by revert c; decide

theorem member_val (c : Dev nD) (p : ℕ) : (member c p).val % 4 = p % 4 := by
  show (c.val / 4 * 4 + p % 4) % 4 = _; omega

/-- If every device's argument is its row block of `x`, every device gathers `x`. -/
theorem gathered_whole (x : S1024x256.Idx → Elt F .bf16)
    (h : ∀ c : Dev nD, m ((c : Thread nD τ).loc main_arg0)
      = Layout.blockN ⟨2, ![256, 256]⟩ ⟨2, ![1024, 256]⟩ (Layout.meshBlock [2, 4, 4] ![[2], []] c) x)
    (c : Dev nD) : gathered m ρ c = x := by
  funext i
  have hi : (i 0).val < 1024 := (i 0).isLt
  show xstg m ρ (member c ((i 0).val / 256)) (within i) = _
  rw [xstg_eq, h, Layout.blockN_apply]
  refine congrArg x (funext fun a => Fin.ext ?_)
  rw [Layout.TilesN.idx_val]
  match a with
  | ⟨0, _⟩ =>
    show Layout.meshLin [2, 4, 4] (member c ((i 0).val / 256)).val [2] * 256 + (i 0).val % 256 = (i 0).val
    rw [block_row, member_val]; omega
  | ⟨1, _⟩ =>
    show Layout.meshLin [2, 4, 4] (member c ((i 0).val / 256)).val [] * 256 + (i 1).val = (i 1).val
    rw [block_col]; omega

/-- The run, read at the arguments and results: on every device the argument is unchanged and the result is the gathered
    array; every counter is at zero. -/
theorem run_arrays : θ_run defs (onTc (τ := τ) (main (F := F))) ⟨m, fun _ => 0, ρ⟩ (fun r =>
    (∀ c : Dev nD, r.2.mem ((c : Thread nD τ).loc main_v1) = gathered m ρ c
      ∧ r.2.mem ((c : Thread nD τ).loc main_arg0) = m ((c : Thread nD τ).loc main_arg0)) ∧ r.2.sem = fun _ => 0) :=
  (θ_run defs _ _).mono
    (fun _ h => ⟨fun c => ⟨(h.1 c (1 : Fin 2)).trans (final_result m ρ c), (h.1 c (0 : Fin 2)).trans (final_arg m ρ c)⟩, h.2⟩)
    (run_main m ρ)

/-- The run, read at the arguments alone: unchanged on every device; every counter is at zero. -/
theorem run_quiet : θ_run defs (onTc (τ := τ) (main (F := F))) ⟨m, fun _ => 0, ρ⟩ (fun r =>
    (∀ c : Dev nD, r.2.mem ((c : Thread nD τ).loc main_arg0) = m ((c : Thread nD τ).loc main_arg0)) ∧ r.2.sem = fun _ => 0) :=
  (θ_run defs _ _).mono (fun _ h => ⟨fun c => (h.1 c).2, h.2⟩) (run_arrays m ρ)

/-! ## The reference -/

/-- The reference, which returns its argument, runs to its end with the argument unchanged and every counter at zero. -/
theorem run_reference (m' : (ℓ : Loc ReferenceIdeal.nD ReferenceIdeal.τ ReferenceIdeal.sig) → Buf (Elt F) ℓ)
    (ρ' : Dev ReferenceIdeal.nD → PrngReg) :
    θ_run (ReferenceIdeal.defs (F := F)) (onTc (τ := ReferenceIdeal.τ) (ReferenceIdeal.main (F := F))) ⟨m', fun _ => 0, ρ'⟩ (fun r =>
      (∀ c : Dev ReferenceIdeal.nD, r.2.mem ((c.tc : Thread ReferenceIdeal.nD ReferenceIdeal.τ).loc ReferenceIdeal.main_arg0)
        = m' ((c.tc : Thread ReferenceIdeal.nD ReferenceIdeal.τ).loc ReferenceIdeal.main_arg0)) ∧ r.2.sem = fun _ => 0) :=
  (θ_run ReferenceIdeal.defs _ _).mono
    (fun r h => ⟨fun c => h c ReferenceIdeal.main_arg0, sem_eq_zero_of_no_sems (by decide) r.2⟩)
    (StableHlo.run_seq (by decide) (by decide) ReferenceIdeal.defs ReferenceIdeal.main (fun _ => []) (fun _ => rfl) (fun _ => trivial) m' ρ')

end Cert.Gather

end
-- ==== Proof.lean ====
/-
The claims: the kernel gathers over its group of four and ends quiet with its argument unchanged, as printed and as read over
the ideal numbers; the reference does too; and every device's result is the whole array the reference returns.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import Idealize.ShloMosaic.Adequacy
public import Idealize.ShloMosaic.Init

@[expose] public section

noncomputable section

namespace Cert.Proof

open Idealize.ShloMosaic Idealize.SL.Sem

/-- The two programs have one body table: each runs the same body at its one label, -/
theorem bodies_eq {F : FTy → Type} [FloatOps F] : Cert.KernelIdeal.defs₀ (F := F) = Cert.Kernel.defs₀ (F := F) :=
  congrArg Defs.onTc (funext fun ℓ => funext fun x => match ℓ, x with
    | ⟨0, _⟩, ⟨_, _⟩ => rfl
    | ⟨_ + 1, h⟩, _ => absurd h (Nat.not_lt.2 (Nat.le_add_left _ _)))

/-- and so they have one table of pipelines. -/
theorem tables_eq {F : FTy → Type} [FloatOps F] : Cert.KernelIdeal.defs (F := F) = Cert.Kernel.defs (F := F) :=
  congrArg (Pipeline.defs Cert.KernelIdeal.pcfgs) bodies_eq

/-- The kernel as printed ends with its argument unchanged and every counter at zero: its text is the idealized kernel's, so
    this is that program's run over the machine's floats. -/
theorem frame_kernel : Cert.quiescent_Kernel := by
  intro m ρ _
  have h := Cert.Gather.run_quiet (F := Bits) m ρ
  rw [tables_eq] at h
  exact h

/-- The idealized kernel ends with its argument unchanged and every counter at zero. -/
theorem frame_ideal : Cert.quiescent_KernelIdeal := fun m ρ _ => Cert.Gather.run_quiet (F := Ideal) m ρ

/-- The reference ends with its argument unchanged and every counter at zero. -/
theorem frame_reference : Cert.quiescent_ReferenceIdeal := fun m ρ _ => Cert.Gather.run_reference (F := Ideal) m ρ

/-- Where the devices' arguments are the row blocks of one array, the reference returns that array and every device of the
    kernel ends with all of it. -/
theorem value : Cert.algebraic_KernelIdeal_ReferenceIdeal := fun m ρ m' ρ' _ hm =>
  ⟨m' (((0 : Dev Cert.ReferenceIdeal.nD).tc : Thread Cert.ReferenceIdeal.nD Cert.ReferenceIdeal.τ).loc Cert.ReferenceIdeal.main_arg0),
    (θ_run Cert.KernelIdeal.defs _ _).mono
      (fun _ h c => ⟨(h.1 c).1.trans (Cert.Gather.gathered_whole m ρ _ hm c), (h.1 c).2⟩) (Cert.Gather.run_arrays (F := Ideal) m ρ),
    (θ_run Cert.ReferenceIdeal.defs _ _).mono (fun _ h => ⟨h.1 0, h.1 0⟩) (Cert.Gather.run_reference (F := Ideal) m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
